-- ==== Defs.lean ====
def Pre_Kernel [hPre_in_vocabulary : Cert.Pre_in_vocabulary.Facts] (m : (ℓ : Loc Cert.Kernel.nD Cert.Kernel.τ Cert.Kernel.sig) → Buf (Elt Bits) ℓ) : Prop :=
  ∀ c : Dev Cert.Kernel.nD,
    (Cert.Pre_in_vocabulary.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_vocabulary : Cert.Pre_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_in_vocabulary : Cert.Pre_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_vocabulary : Cert.Pre_in_vocabulary.Facts] (m : (ℓ : Loc Cert.Reference.nD Cert.Reference.τ Cert.Reference.sig) → Buf (Elt Bits) ℓ) : Prop :=
  ∀ c : Dev Cert.Reference.nD,
    (Cert.Pre_in_vocabulary.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_in_vocabulary : Cert.Pre_in_vocabulary.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_in_vocabulary : Cert.Pre_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_vocabulary : Cert.Pre_in_vocabulary.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_vocabulary : Cert.Pre_in_vocabulary.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v4)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v4) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_in_vocabulary : Cert.Pre_in_vocabulary.Facts),
    quiescent_Kernel (hKernel := hKernel) (hPre_in_vocabulary := hPre_in_vocabulary)
    ∧ quiescent_KernelIdeal (hKernelIdeal := hKernelIdeal) (hPre_in_vocabulary := hPre_in_vocabulary)
    ∧ quiescent_ReferenceIdeal (hReferenceIdeal := hReferenceIdeal) (hPre_in_vocabulary := hPre_in_vocabulary)
    ∧ quiescent_Reference (hReference := hReference) (hPre_in_vocabulary := hPre_in_vocabulary)
    ∧ preserves_Kernel_KernelIdeal
    ∧ algebraic_KernelIdeal_ReferenceIdeal (hKernelIdeal := hKernelIdeal) (hReferenceIdeal := hReferenceIdeal) (hPre_in_vocabulary := hPre_in_vocabulary)
    ∧ bitexact_Kernel_Reference (hKernel := hKernel) (hReference := hReference) (hPre_in_vocabulary := hPre_in_vocabulary)
-- ==== Pre_in_vocabulary.lean ====
abbrev S4096x200 : Shape := ⟨2, ![4096, 200]⟩
abbrev S100000x300 : Shape := ⟨2, ![100000, 300]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : IVec S4096x200 32) (main_arg1 : FVec F S100000x300 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 100000#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  main_v5
-- ==== Kernel.lean ====
abbrev S4096x200 : Shape := ⟨2, ![4096, 200]⟩
abbrev S100000x300 : Shape := ⟨2, ![100000, 300]⟩
abbrev S100000x44 : Shape := ⟨2, ![100000, 44]⟩
abbrev S_ : Shape := ⟨0, ![]⟩
abbrev S100000x128 : Shape := ⟨2, ![100000, 128]⟩
abbrev S819200 : Shape := ⟨1, ![819200]⟩
abbrev S819200x300 : Shape := ⟨2, ![819200, 300]⟩
abbrev S3x80 : Shape := ⟨2, ![3, 80]⟩
abbrev S3x80x300 : Shape := ⟨3, ![3, 80, 300]⟩
abbrev S3x80x128 : Shape := ⟨3, ![3, 80, 128]⟩
abbrev S1x80 : Shape := ⟨2, ![1, 80]⟩
abbrev S80 : Shape := ⟨1, ![80]⟩
abbrev S1x80x300 : Shape := ⟨3, ![1, 80, 300]⟩
abbrev S80x300 : Shape := ⟨2, ![80, 300]⟩
abbrev S80x128 : Shape := ⟨2, ![80, 128]⟩
abbrev S1x80x128 : Shape := ⟨3, ![1, 80, 128]⟩
abbrev S16 : Shape := ⟨1, ![16]⟩
abbrev S1x1x16 : Shape := ⟨3, ![1, 1, 16]⟩
abbrev S4096x200x300 : Shape := ⟨3, ![4096, 200, 300]⟩

abbrev nBuf : Table → Nat
  | .hbm => 9
  | .local .scVector .vmem => 3
  | _ => 0

abbrev bufTy : (tb : Table) → Fin (nBuf tb) → BufTy
  | .hbm, ⟨0, _⟩ => ⟨S4096x200, .i32⟩
  | .hbm, ⟨1, _⟩ => ⟨S100000x300, .f32⟩
  | .hbm, ⟨2, _⟩ => ⟨S100000x44, .f32⟩
  | .hbm, ⟨3, _⟩ => ⟨S_, .i32⟩
  | .hbm, ⟨4, _⟩ => ⟨S_, .f32⟩
  | .hbm, ⟨5, _⟩ => ⟨S100000x128, .f32⟩
  | .hbm, ⟨6, _⟩ => ⟨S819200, .i32⟩
  | .hbm, ⟨7, _⟩ => ⟨S819200x300, .f32⟩
  | .hbm, ⟨8, _⟩ => ⟨S4096x200x300, .f32⟩
  | .local .scVector .vmem, ⟨0, _⟩ => ⟨S3x80, .i32⟩
  | .local .scVector .vmem, ⟨1, _⟩ => ⟨S3x80x300, .f32⟩
  | .local .scVector .vmem, ⟨2, _⟩ => ⟨S3x80x128, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v2_scv : Ref sig .scVector := ⟨.hbm, 6, rfl⟩
abbrev main_arg1_scv : Ref sig .scVector := ⟨.hbm, 1, rfl⟩
abbrev main_v1_scv : Ref sig .scVector := ⟨.hbm, 5, rfl⟩
abbrev main_v3_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let v3 : BitVec 32 := Scalar.addi v2 c0_i32
  ![v3.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  ![v2.toNat]
@[reducible] def k0_t1_loop : Scf.Loop 32 :=
  let c0_i32_37 : BitVec 32 := 0#32
  let c320_i32 : BitVec 32 := 320#32
  let v42 : BitVec 32 := Scalar.addi c0_i32_37 c320_i32
  let c1_i32_38 : BitVec 32 := 1#32
  ⟨c0_i32_37, v42, c1_i32_38⟩
def k0_cond1 (k0_t1 : Fin k0_t1_loop.trips) : BitVec 1 :=
  let c0_i32_37 : BitVec 32 := 0#32
  let c1_i32_38 : BitVec 32 := 1#32
  let arg16 : BitVec 32 := Scf.iv c0_i32_37 c1_i32_38 k0_t1
  let c3_i32 : BitVec 32 := 3#32
  let v64 : BitVec 32 := Scalar.remsi arg16 c3_i32
  let c0_i32_61 : BitVec 32 := 0#32
  let v65 : BitVec 32 := Scalar.maxsi v64 c0_i32_61
  let c2_i32_62 : BitVec 32 := 2#32
  let v66 : BitVec 32 := Scalar.minsi v65 c2_i32_62
  let c0_i32_63 : BitVec 32 := 0#32
  let v67 : BitVec 1 := Scalar.cmpi .ne v66 c0_i32_63
  v67

def k0_cond2 (k0_t1 : Fin k0_t1_loop.trips) : BitVec 1 :=
  let c0_i32_37 : BitVec 32 := 0#32
  let c1_i32_38 : BitVec 32 := 1#32
  let arg16 : BitVec 32 := Scf.iv c0_i32_37 c1_i32_38 k0_t1
  let c3_i32 : BitVec 32 := 3#32
  let v64 : BitVec 32 := Scalar.remsi arg16 c3_i32
  let c0_i32_61 : BitVec 32 := 0#32
  let v65 : BitVec 32 := Scalar.maxsi v64 c0_i32_61
  let c2_i32_62 : BitVec 32 := 2#32
  let v66 : BitVec 32 := Scalar.minsi v65 c2_i32_62
  let c1_i32_64 : BitVec 32 := 1#32
  let v68 : BitVec 32 := Scalar.subi v66 c1_i32_64
  let c0_i32_65 : BitVec 32 := 0#32
  let v69 : BitVec 1 := Scalar.cmpi .ne v68 c0_i32_65
  v69

def k0_cond3 (k0_t1 : Fin k0_t1_loop.trips) : BitVec 1 :=
  let c0_i32_37 : BitVec 32 := 0#32
  let c1_i32_38 : BitVec 32 := 1#32
  let arg16 : BitVec 32 := Scf.iv c0_i32_37 c1_i32_38 k0_t1
  let c319_i32 : BitVec 32 := 319#32
  let v70 : BitVec 1 := Scalar.cmpi .slt arg16 c319_i32
  let v71 : BitVec 32 := Scalar.extui v70
  let c0_i32_66 : BitVec 32 := 0#32
  let v72 : BitVec 1 := Scalar.cmpi .ne v71 c0_i32_66
  v72

def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  ![v2.toNat]
def k0_cond4 (k0_t1 : Fin k0_t1_loop.trips) : BitVec 1 :=
  let c0_i32_37 : BitVec 32 := 0#32
  let c1_i32_38 : BitVec 32 := 1#32
  let arg16 : BitVec 32 := Scf.iv c0_i32_37 c1_i32_38 k0_t1
  let c2_i32_105 : BitVec 32 := 2#32
  let v113 : BitVec 1 := Scalar.cmpi .sge arg16 c2_i32_105
  let v114 : BitVec 32 := Scalar.extui v113
  let c0_i32_106 : BitVec 32 := 0#32
  let v115 : BitVec 1 := Scalar.cmpi .ne v114 c0_i32_106
  v115

def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_37 : BitVec 32 := 0#32
  let c1_i32_38 : BitVec 32 := 1#32
  let arg16 : BitVec 32 := Scf.iv c0_i32_37 c1_i32_38 k0_t1
  let c2_i32_136 : BitVec 32 := 2#32
  let v135 : BitVec 32 := Scalar.subi arg16 c2_i32_136
  let c80_i32_137 : BitVec 32 := 80#32
  let v136 : BitVec 32 := Scalar.muli v135 c80_i32_137
  let v137 : BitVec 32 := Scalar.addi v2 v136
  let c0_i32_141 : BitVec 32 := 0#32
  ![v137.toNat, 0]
def k0_cond5 (k0_t1 : Fin k0_t1_loop.trips) : BitVec 1 :=
  let c0_i32_37 : BitVec 32 := 0#32
  let c1_i32_38 : BitVec 32 := 1#32
  let arg16 : BitVec 32 := Scf.iv c0_i32_37 c1_i32_38 k0_t1
  let c318_i32 : BitVec 32 := 318#32
  let v73 : BitVec 1 := Scalar.cmpi .slt arg16 c318_i32
  let v74 : BitVec 32 := Scalar.extui v73
  let c0_i32_67 : BitVec 32 := 0#32
  let v75 : BitVec 1 := Scalar.cmpi .ne v74 c0_i32_67
  v75

def k0_off5 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_37 : BitVec 32 := 0#32
  let c1_i32_38 : BitVec 32 := 1#32
  let arg16 : BitVec 32 := Scf.iv c0_i32_37 c1_i32_38 k0_t1
  let c2_i32_102 : BitVec 32 := 2#32
  let v107 : BitVec 32 := Scalar.addi arg16 c2_i32_102
  let c80_i32_103 : BitVec 32 := 80#32
  let v108 : BitVec 32 := Scalar.muli v107 c80_i32_103
  let v109 : BitVec 32 := Scalar.addi v2 v108
  ![v109.toNat]
@[reducible] def k0_t2_loop : Scf.Loop 32 :=
  let c0_i32_90 : BitVec 32 := 0#32
  let c80_i32_91 : BitVec 32 := 80#32
  let v98 : BitVec 32 := Scalar.addi c0_i32_90 c80_i32_91
  let c1_i32_92 : BitVec 32 := 1#32
  ⟨c0_i32_90, v98, c1_i32_92⟩
def k0_off6 (k0_t2 : Fin k0_t2_loop.trips) : Fin 3 → Nat :=
  let c2_i32_102 : BitVec 32 := 2#32
  let v107 : Index := Scalar.indexCast c2_i32_102
  let c0_i32_90 : BitVec 32 := 0#32
  let c1_i32_92 : BitVec 32 := 1#32
  let arg17 : BitVec 32 := Scf.iv c0_i32_90 c1_i32_92 k0_t2
  let v108 : Index := Scalar.indexCast arg17
  let c0 : Index := 0#32
  ![2, v108.toNat, 0]
def k0_off7 (k0_t2 : Fin k0_t2_loop.trips) : Fin 3 → Nat :=
  let c2_i32_103 : BitVec 32 := 2#32
  let v110 : Index := Scalar.indexCast c2_i32_103
  let c0_i32_90 : BitVec 32 := 0#32
  let c1_i32_92 : BitVec 32 := 1#32
  let arg17 : BitVec 32 := Scf.iv c0_i32_90 c1_i32_92 k0_t2
  let v111 : Index := Scalar.indexCast arg17
  let c256 : Index := 256#32
  ![2, v111.toNat, 256]
def k0_off8 (k0_t2 : Fin k0_t2_loop.trips) : Fin 3 → Nat :=
  let c2_i32_104 : BitVec 32 := 2#32
  let v113 : Index := Scalar.indexCast c2_i32_104
  let c0_i32_90 : BitVec 32 := 0#32
  let c1_i32_92 : BitVec 32 := 1#32
  let arg17 : BitVec 32 := Scf.iv c0_i32_90 c1_i32_92 k0_t2
  let v114 : Index := Scalar.indexCast arg17
  let c16 : Index := 16#32
  ![2, v114.toNat, 16]
def k0_off9 (k0_t2 : Fin k0_t2_loop.trips) : Fin 3 → Nat :=
  let c2_i32_105 : BitVec 32 := 2#32
  let v116 : Index := Scalar.indexCast c2_i32_105
  let c0_i32_90 : BitVec 32 := 0#32
  let c1_i32_92 : BitVec 32 := 1#32
  let arg17 : BitVec 32 := Scf.iv c0_i32_90 c1_i32_92 k0_t2
  let v117 : Index := Scalar.indexCast arg17
  let c272 : Index := 272#32
  ![2, v117.toNat, 272]
def k0_off10 (k0_t2 : Fin k0_t2_loop.trips) : Fin 3 → Nat :=
  let c2_i32_106 : BitVec 32 := 2#32
  let v119 : Index := Scalar.indexCast c2_i32_106
  let c0_i32_90 : BitVec 32 := 0#32
  let c1_i32_92 : BitVec 32 := 1#32
  let arg17 : BitVec 32 := Scf.iv c0_i32_90 c1_i32_92 k0_t2
  let v120 : Index := Scalar.indexCast arg17
  let c32 : Index := 32#32
  ![2, v120.toNat, 32]

def k0_chk1 (k0_t1 : Fin k0_t1_loop.trips) (v97 : IVec S16 32) (v122 : IVec S16 32) : Prop :=
  (∀ (k0_h1 : k0_cond1 k0_t1 = 1#1), ∀ (k0_h2 : k0_cond2 k0_t1 = 1#1), ∀ a x, ((![v122, v97] : Fin 2 → IVec S16 32) a x).toNat < S80x300.size a)
theorem k0_idx1_inb : ∀ (k0_t1 : Fin k0_t1_loop.trips) (v97 : IVec S16 32) (v122 : IVec S16 32) (k0_hw1 : k0_chk1 k0_t1 v97 v122), ∀ (k0_h1 : k0_cond1 k0_t1 = 1#1), ∀ (k0_h2 : k0_cond2 k0_t1 = 1#1), ∀ a x, ((![v122, v97] : Fin 2 → IVec S16 32) a x).toNat < S80x300.size a := fun k0_t1 v97 v122 k0_hw1 k0_h1 k0_h2 => k0_hw1 k0_h1 k0_h2
def k0_off11 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_37 : BitVec 32 := 0#32
  let c1_i32_38 : BitVec 32 := 1#32
  let arg16 : BitVec 32 := Scf.iv c0_i32_37 c1_i32_38 k0_t1
  let c80_i32_94 : BitVec 32 := 80#32
  let v99 : BitVec 32 := Scalar.muli arg16 c80_i32_94
  let v100 : BitVec 32 := Scalar.addi v2 v99
  let c0_i32_98 : BitVec 32 := 0#32
  ![v100.toNat, 0]
def k0_cond6 (k0_t1 : Fin k0_t1_loop.trips) : BitVec 1 :=
  let c0_i32_37 : BitVec 32 := 0#32
  let c1_i32_38 : BitVec 32 := 1#32
  let arg16 : BitVec 32 := Scf.iv c0_i32_37 c1_i32_38 k0_t1
  let c319_i32 : BitVec 32 := 319#32
  let v70 : BitVec 1 := Scalar.cmpi .slt arg16 c319_i32
  let v71 : BitVec 32 := Scalar.extui v70
  let c0_i32_66 : BitVec 32 := 0#32
  let v72 : BitVec 1 := Scalar.cmpi .ne v71 c0_i32_66
  v72

def k0_off12 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  ![v2.toNat]
def k0_cond7 (k0_t1 : Fin k0_t1_loop.trips) : BitVec 1 :=
  let c0_i32_37 : BitVec 32 := 0#32
  let c1_i32_38 : BitVec 32 := 1#32
  let arg16 : BitVec 32 := Scf.iv c0_i32_37 c1_i32_38 k0_t1
  let c2_i32_105 : BitVec 32 := 2#32
  let v113 : BitVec 1 := Scalar.cmpi .sge arg16 c2_i32_105
  let v114 : BitVec 32 := Scalar.extui v113
  let c0_i32_106 : BitVec 32 := 0#32
  let v115 : BitVec 1 := Scalar.cmpi .ne v114 c0_i32_106
  v115

def k0_off13 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_37 : BitVec 32 := 0#32
  let c1_i32_38 : BitVec 32 := 1#32
  let arg16 : BitVec 32 := Scf.iv c0_i32_37 c1_i32_38 k0_t1
  let c2_i32_136 : BitVec 32 := 2#32
  let v135 : BitVec 32 := Scalar.subi arg16 c2_i32_136
  let c80_i32_137 : BitVec 32 := 80#32
  let v136 : BitVec 32 := Scalar.muli v135 c80_i32_137
  let v137 : BitVec 32 := Scalar.addi v2 v136
  let c0_i32_141 : BitVec 32 := 0#32
  ![v137.toNat, 0]
def k0_cond8 (k0_t1 : Fin k0_t1_loop.trips) : BitVec 1 :=
  let c0_i32_37 : BitVec 32 := 0#32
  let c1_i32_38 : BitVec 32 := 1#32
  let arg16 : BitVec 32 := Scf.iv c0_i32_37 c1_i32_38 k0_t1
  let c318_i32 : BitVec 32 := 318#32
  let v73 : BitVec 1 := Scalar.cmpi .slt arg16 c318_i32
  let v74 : BitVec 32 := Scalar.extui v73
  let c0_i32_67 : BitVec 32 := 0#32
  let v75 : BitVec 1 := Scalar.cmpi .ne v74 c0_i32_67
  v75

def k0_off14 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_37 : BitVec 32 := 0#32
  let c1_i32_38 : BitVec 32 := 1#32
  let arg16 : BitVec 32 := Scf.iv c0_i32_37 c1_i32_38 k0_t1
  let c2_i32_102 : BitVec 32 := 2#32
  let v107 : BitVec 32 := Scalar.addi arg16 c2_i32_102
  let c80_i32_103 : BitVec 32 := 80#32
  let v108 : BitVec 32 := Scalar.muli v107 c80_i32_103
  let v109 : BitVec 32 := Scalar.addi v2 v108
  ![v109.toNat]
@[reducible] def k0_t3_loop : Scf.Loop 32 :=
  let c0_i32_90 : BitVec 32 := 0#32
  let c80_i32_91 : BitVec 32 := 80#32
  let v98 : BitVec 32 := Scalar.addi c0_i32_90 c80_i32_91
  let c1_i32_92 : BitVec 32 := 1#32
  ⟨c0_i32_90, v98, c1_i32_92⟩
def k0_off15 (k0_t3 : Fin k0_t3_loop.trips) : Fin 3 → Nat :=
  let c1_i32_102 : BitVec 32 := 1#32
  let v107 : Index := Scalar.indexCast c1_i32_102
  let c0_i32_90 : BitVec 32 := 0#32
  let c1_i32_92 : BitVec 32 := 1#32
  let arg17 : BitVec 32 := Scf.iv c0_i32_90 c1_i32_92 k0_t3
  let v108 : Index := Scalar.indexCast arg17
  let c0 : Index := 0#32
  ![1, v108.toNat, 0]
def k0_off16 (k0_t3 : Fin k0_t3_loop.trips) : Fin 3 → Nat :=
  let c1_i32_103 : BitVec 32 := 1#32
  let v110 : Index := Scalar.indexCast c1_i32_103
  let c0_i32_90 : BitVec 32 := 0#32
  let c1_i32_92 : BitVec 32 := 1#32
  let arg17 : BitVec 32 := Scf.iv c0_i32_90 c1_i32_92 k0_t3
  let v111 : Index := Scalar.indexCast arg17
  let c256 : Index := 256#32
  ![1, v111.toNat, 256]
def k0_off17 (k0_t3 : Fin k0_t3_loop.trips) : Fin 3 → Nat :=
  let c1_i32_104 : BitVec 32 := 1#32
  let v113 : Index := Scalar.indexCast c1_i32_104
  let c0_i32_90 : BitVec 32 := 0#32
  let c1_i32_92 : BitVec 32 := 1#32
  let arg17 : BitVec 32 := Scf.iv c0_i32_90 c1_i32_92 k0_t3
  let v114 : Index := Scalar.indexCast arg17
  let c16 : Index := 16#32
  ![1, v114.toNat, 16]
def k0_off18 (k0_t3 : Fin k0_t3_loop.trips) : Fin 3 → Nat :=
  let c1_i32_105 : BitVec 32 := 1#32
  let v116 : Index := Scalar.indexCast c1_i32_105
  let c0_i32_90 : BitVec 32 := 0#32
  let c1_i32_92 : BitVec 32 := 1#32
  let arg17 : BitVec 32 := Scf.iv c0_i32_90 c1_i32_92 k0_t3
  let v117 : Index := Scalar.indexCast arg17
  let c272 : Index := 272#32
  ![1, v117.toNat, 272]
def k0_off19 (k0_t3 : Fin k0_t3_loop.trips) : Fin 3 → Nat :=
  let c1_i32_106 : BitVec 32 := 1#32
  let v119 : Index := Scalar.indexCast c1_i32_106
  let c0_i32_90 : BitVec 32 := 0#32
  let c1_i32_92 : BitVec 32 := 1#32
  let arg17 : BitVec 32 := Scf.iv c0_i32_90 c1_i32_92 k0_t3
  let v120 : Index := Scalar.indexCast arg17
  let c32 : Index := 32#32
  ![1, v120.toNat, 32]

def k0_chk2 (k0_t1 : Fin k0_t1_loop.trips) (v97 : IVec S16 32) (v122 : IVec S16 32) : Prop :=
  (∀ (k0_h1 : k0_cond1 k0_t1 = 1#1), ∀ (k0_h2 : ¬(k0_cond2 k0_t1 = 1#1)), ∀ a x, ((![v122, v97] : Fin 2 → IVec S16 32) a x).toNat < S80x300.size a)
theorem k0_idx2_inb : ∀ (k0_t1 : Fin k0_t1_loop.trips) (v97 : IVec S16 32) (v122 : IVec S16 32) (k0_hw2 : k0_chk2 k0_t1 v97 v122), ∀ (k0_h1 : k0_cond1 k0_t1 = 1#1), ∀ (k0_h2 : ¬(k0_cond2 k0_t1 = 1#1)), ∀ a x, ((![v122, v97] : Fin 2 → IVec S16 32) a x).toNat < S80x300.size a := fun k0_t1 v97 v122 k0_hw2 k0_h1 k0_h2 => k0_hw2 k0_h1 k0_h2
def k0_off20 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_37 : BitVec 32 := 0#32
  let c1_i32_38 : BitVec 32 := 1#32
  let arg16 : BitVec 32 := Scf.iv c0_i32_37 c1_i32_38 k0_t1
  let c80_i32_94 : BitVec 32 := 80#32
  let v99 : BitVec 32 := Scalar.muli arg16 c80_i32_94
  let v100 : BitVec 32 := Scalar.addi v2 v99
  let c0_i32_98 : BitVec 32 := 0#32
  ![v100.toNat, 0]
def k0_cond9 (k0_t1 : Fin k0_t1_loop.trips) : BitVec 1 :=
  let c0_i32_37 : BitVec 32 := 0#32
  let c1_i32_38 : BitVec 32 := 1#32
  let arg16 : BitVec 32 := Scf.iv c0_i32_37 c1_i32_38 k0_t1
  let c319_i32 : BitVec 32 := 319#32
  let v68 : BitVec 1 := Scalar.cmpi .slt arg16 c319_i32
  let v69 : BitVec 32 := Scalar.extui v68
  let c0_i32_64 : BitVec 32 := 0#32
  let v70 : BitVec 1 := Scalar.cmpi .ne v69 c0_i32_64
  v70

def k0_off21 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  ![v2.toNat]
def k0_cond10 (k0_t1 : Fin k0_t1_loop.trips) : BitVec 1 :=
  let c0_i32_37 : BitVec 32 := 0#32
  let c1_i32_38 : BitVec 32 := 1#32
  let arg16 : BitVec 32 := Scf.iv c0_i32_37 c1_i32_38 k0_t1
  let c2_i32_103 : BitVec 32 := 2#32
  let v111 : BitVec 1 := Scalar.cmpi .sge arg16 c2_i32_103
  let v112 : BitVec 32 := Scalar.extui v111
  let c0_i32_104 : BitVec 32 := 0#32
  let v113 : BitVec 1 := Scalar.cmpi .ne v112 c0_i32_104
  v113

def k0_off22 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_37 : BitVec 32 := 0#32
  let c1_i32_38 : BitVec 32 := 1#32
  let arg16 : BitVec 32 := Scf.iv c0_i32_37 c1_i32_38 k0_t1
  let c2_i32_134 : BitVec 32 := 2#32
  let v133 : BitVec 32 := Scalar.subi arg16 c2_i32_134
  let c80_i32_135 : BitVec 32 := 80#32
  let v134 : BitVec 32 := Scalar.muli v133 c80_i32_135
  let v135 : BitVec 32 := Scalar.addi v2 v134
  let c0_i32_139 : BitVec 32 := 0#32
  ![v135.toNat, 0]
def k0_cond11 (k0_t1 : Fin k0_t1_loop.trips) : BitVec 1 :=
  let c0_i32_37 : BitVec 32 := 0#32
  let c1_i32_38 : BitVec 32 := 1#32
  let arg16 : BitVec 32 := Scf.iv c0_i32_37 c1_i32_38 k0_t1
  let c318_i32 : BitVec 32 := 318#32
  let v71 : BitVec 1 := Scalar.cmpi .slt arg16 c318_i32
  let v72 : BitVec 32 := Scalar.extui v71
  let c0_i32_65 : BitVec 32 := 0#32
  let v73 : BitVec 1 := Scalar.cmpi .ne v72 c0_i32_65
  v73

def k0_off23 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_37 : BitVec 32 := 0#32
  let c1_i32_38 : BitVec 32 := 1#32
  let arg16 : BitVec 32 := Scf.iv c0_i32_37 c1_i32_38 k0_t1
  let c2_i32_100 : BitVec 32 := 2#32
  let v105 : BitVec 32 := Scalar.addi arg16 c2_i32_100
  let c80_i32_101 : BitVec 32 := 80#32
  let v106 : BitVec 32 := Scalar.muli v105 c80_i32_101
  let v107 : BitVec 32 := Scalar.addi v2 v106
  ![v107.toNat]
@[reducible] def k0_t4_loop : Scf.Loop 32 :=
  let c0_i32_88 : BitVec 32 := 0#32
  let c80_i32_89 : BitVec 32 := 80#32
  let v96 : BitVec 32 := Scalar.addi c0_i32_88 c80_i32_89
  let c1_i32_90 : BitVec 32 := 1#32
  ⟨c0_i32_88, v96, c1_i32_90⟩
def k0_off24 (k0_t4 : Fin k0_t4_loop.trips) : Fin 3 → Nat :=
  let c0_i32_100 : BitVec 32 := 0#32
  let v105 : Index := Scalar.indexCast c0_i32_100
  let c0_i32_88 : BitVec 32 := 0#32
  let c1_i32_90 : BitVec 32 := 1#32
  let arg17 : BitVec 32 := Scf.iv c0_i32_88 c1_i32_90 k0_t4
  let v106 : Index := Scalar.indexCast arg17
  let c0 : Index := 0#32
  ![0, v106.toNat, 0]
def k0_off25 (k0_t4 : Fin k0_t4_loop.trips) : Fin 3 → Nat :=
  let c0_i32_101 : BitVec 32 := 0#32
  let v108 : Index := Scalar.indexCast c0_i32_101
  let c0_i32_88 : BitVec 32 := 0#32
  let c1_i32_90 : BitVec 32 := 1#32
  let arg17 : BitVec 32 := Scf.iv c0_i32_88 c1_i32_90 k0_t4
  let v109 : Index := Scalar.indexCast arg17
  let c256 : Index := 256#32
  ![0, v109.toNat, 256]
def k0_off26 (k0_t4 : Fin k0_t4_loop.trips) : Fin 3 → Nat :=
  let c0_i32_102 : BitVec 32 := 0#32
  let v111 : Index := Scalar.indexCast c0_i32_102
  let c0_i32_88 : BitVec 32 := 0#32
  let c1_i32_90 : BitVec 32 := 1#32
  let arg17 : BitVec 32 := Scf.iv c0_i32_88 c1_i32_90 k0_t4
  let v112 : Index := Scalar.indexCast arg17
  let c16 : Index := 16#32
  ![0, v112.toNat, 16]
def k0_off27 (k0_t4 : Fin k0_t4_loop.trips) : Fin 3 → Nat :=
  let c0_i32_103 : BitVec 32 := 0#32
  let v114 : Index := Scalar.indexCast c0_i32_103
  let c0_i32_88 : BitVec 32 := 0#32
  let c1_i32_90 : BitVec 32 := 1#32
  let arg17 : BitVec 32 := Scf.iv c0_i32_88 c1_i32_90 k0_t4
  let v115 : Index := Scalar.indexCast arg17
  let c272 : Index := 272#32
  ![0, v115.toNat, 272]
def k0_off28 (k0_t4 : Fin k0_t4_loop.trips) : Fin 3 → Nat :=
  let c0_i32_104 : BitVec 32 := 0#32
  let v117 : Index := Scalar.indexCast c0_i32_104
  let c0_i32_88 : BitVec 32 := 0#32
  let c1_i32_90 : BitVec 32 := 1#32
  let arg17 : BitVec 32 := Scf.iv c0_i32_88 c1_i32_90 k0_t4
  let v118 : Index := Scalar.indexCast arg17
  let c32 : Index := 32#32
  ![0, v118.toNat, 32]

def k0_chk3 (k0_t1 : Fin k0_t1_loop.trips) (v95 : IVec S16 32) (v120 : IVec S16 32) : Prop :=
  (∀ (k0_h1 : ¬(k0_cond1 k0_t1 = 1#1)), ∀ a x, ((![v120, v95] : Fin 2 → IVec S16 32) a x).toNat < S80x300.size a)
theorem k0_idx3_inb : ∀ (k0_t1 : Fin k0_t1_loop.trips) (v95 : IVec S16 32) (v120 : IVec S16 32) (k0_hw3 : k0_chk3 k0_t1 v95 v120), ∀ (k0_h1 : ¬(k0_cond1 k0_t1 = 1#1)), ∀ a x, ((![v120, v95] : Fin 2 → IVec S16 32) a x).toNat < S80x300.size a := fun k0_t1 v95 v120 k0_hw3 k0_h1 => k0_hw3 k0_h1
def k0_off29 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_37 : BitVec 32 := 0#32
  let c1_i32_38 : BitVec 32 := 1#32
  let arg16 : BitVec 32 := Scf.iv c0_i32_37 c1_i32_38 k0_t1
  let c80_i32_92 : BitVec 32 := 80#32
  let v97 : BitVec 32 := Scalar.muli arg16 c80_i32_92
  let v98 : BitVec 32 := Scalar.addi v2 v97
  let c0_i32_96 : BitVec 32 := 0#32
  ![v98.toNat, 0]
def k0_off30 (i : grid0.Coords) (c25360_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let v43 : BitVec 32 := Scalar.addi v2 c25360_i32
  let c0_i32_43 : BitVec 32 := 0#32
  ![v43.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4096x200 : Shape := ⟨2, ![4096, 200]⟩
abbrev S100000x300 : Shape := ⟨2, ![100000, 300]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x300 : Shape := ⟨3, ![4096, 200, 300]⟩

abbrev nBuf : Space → Nat
  | .hbm => 25
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S100000x300, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x300, .f32⟩
  | .hbm, ⟨21, _⟩ => ⟨S4096x200x300, .i1⟩
  | .hbm, ⟨22, _⟩ => ⟨S_, .f32⟩
  | .hbm, ⟨23, _⟩ => ⟨S4096x200x300, .f32⟩
  | .hbm, ⟨24, _⟩ => ⟨S4096x200x300, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Issue.lean ====
/- An indirect gather issued onto a semaphore that already carries a counted batch of transfers.

   The kernel starts three gathers on one semaphore before it waits for any of them. Every gathered row is one
   transfer of the batch, all rows credit the same amount, and the deliveries come back together at the last of
   the three waits. -/
module

public import Idealize.ShloMosaic.Lib.SparseCore.Ops
public import Idealize.ShloMosaic.Lib.SparseCore.Stream
public import Idealize.ShloMosaic.Lib.Batch
public import Idealize.ShloMosaic.Lib.Tactic

@[expose] public section

noncomputable section

namespace Cert.Proof.Issue

open Idealize.ShloMosaic
open Idealize.ShloMosaic.SparseCore
open Idealize.SL Idealize.SL.RA Idealize.SL.BI
open scoped Idealize.SL.BI
open Idealize.SL.BI.BIBase Idealize.SL.BI.Laws Idealize.SL.ProofMode Idealize.SL.Sem
open Idealize.ShloMosaic.Tactic

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

omit [Preorder Lvl] in
/-- The transfers not yet issued from the `k`-th on are the next `o` of them and those from the `k + o`-th on. -/
theorem pending_cut {n o k : ℕ} (t : Fin o → Fin n) (ht : ∀ j, (t j).val = k + j.val) (Φ : Fin n → sProp 𝕄) :
    bigSep (Transfers.pending (n := n) k) Φ
      = iprop((bigSep Finset.univ fun j : Fin o => Φ (t j)) ∗ bigSep (Transfers.pending (n := n) (k + o)) Φ) := by
  classical
  have hinj : Function.Injective t := fun x y h => by
    have := congrArg Fin.val h; rw [ht, ht] at this; exact Fin.ext (by omega)
  have hset : Transfers.pending (n := n) k = (Finset.univ.map ⟨t, hinj⟩) ∪ Transfers.pending (n := n) (k + o) := by
    ext x
    simp only [Transfers.pending, Finset.mem_filter, Finset.mem_univ, true_and, Finset.mem_union, Finset.mem_map,
      Function.Embedding.coeFn_mk]
    constructor
    · intro hx
      by_cases h : x.val < k + o
      · exact .inl ⟨⟨x.val - k, by omega⟩, Fin.ext (by rw [ht]; simp only; omega)⟩
      · exact .inr (by omega)
    · rintro (⟨j, rfl⟩ | h)
      · rw [ht]; omega
      · omega
  have hdis : Disjoint (Finset.univ.map ⟨t, hinj⟩) (Transfers.pending (n := n) (k + o)) := by
    rw [Finset.disjoint_left]
    intro x hx hx'
    obtain ⟨j, -, rfl⟩ := Finset.mem_map.mp hx
    have := (Finset.mem_filter.mp hx').2
    have h2 := ht j
    have h3 := j.isLt
    simp only [Function.Embedding.coeFn_mk] at this
    omega
  rw [hset, BI.bigSep_union hdis, BI.bigSep_map]
  rfl

variable {defs : Defs nD τ sig (Elt F) Λ} (EC : UEmb Counters (MT nD τ sig Ix (Elt F) Name U Lvl)) (𝒱 : Variants)
variable (c : Thread nD τ) (bd : Option 𝒱.V)
variable {sp : Space} {s₀ s si : Shape} {e : EltTy} {a : Nat} {α : Type} {Q : α → sProp (MT nD τ sig Ix (Elt F) Name U Lvl)}

/-- The list entry that names row `j`. -/
def entryAt {o : ℕ} (hn : si.numel = o) (j : Fin o) : si.Idx := si.rowMajor.symm (j.cast hn.symm)

theorem entryAt_bij {o : ℕ} (hn : si.numel = o) : Function.Bijective (entryAt hn) :=
  si.rowMajor.symm.bijective.comp (finCongr hn.symm).bijective

/-- What one row of a gather hands back when it has landed: the row of the destination written, the list entry that
    named it, and its piece of the source's share. -/
def rowGot (src : Memref sig c.2.kind sp s₀ e) (dst : Memref sig c.2.kind .vmem s e) (hg : s₀.Gathers a s)
    (offs : Memref sig c.2.kind .vmem si .i32) (hn : si.numel = s.size hg.axis') (hs : 0 < s.numel)
    (q qo : PosShare TreeShare) (fs : Buf (Elt F) (src.view.loc c)) (fd : Buf (Elt F) (dst.view.loc c))
    (fo : Buf (Elt F) (offs.view.loc c)) (hin : ∀ x, (offs.view.read (Elt F) fo x).toNat < s₀.size hg.axis)
    (j : Fin (s.size hg.axis')) : sProp 𝕄 :=
  iprop(((dst.view.loc c ↦[(dst.view.slice (s.rowRect hg.axis' j)).set]{fullShare}
            ((dst.view.slice (s.rowRect hg.axis' j)).write (Elt F) fd
              (fun i => src.view.read (Elt F) fs (hg.rowIdx (rows (offs.view.read (Elt F) fo) hn hin j) i)) Finset.univ))
          ∗ (offs.view.loc c ↦[{offs.view.emb (entryAt hn j)}]{qo} fo))
        ∗ (src.view.loc c ↦[src.view.set]{pieceOf q _ (Shape.size_pos_of_numel_pos hs _) j} fs))

instance rowGot_storable [Preorder Lvl] (src : Memref sig c.2.kind sp s₀ e) (dst : Memref sig c.2.kind .vmem s e) (hg : s₀.Gathers a s)
    (offs : Memref sig c.2.kind .vmem si .i32) (hn : si.numel = s.size hg.axis') (hs : 0 < s.numel)
    (q qo : PosShare TreeShare) (fs : Buf (Elt F) (src.view.loc c)) (fd : Buf (Elt F) (dst.view.loc c))
    (fo : Buf (Elt F) (offs.view.loc c)) (hin : ∀ x, (offs.view.read (Elt F) fo x).toNat < s₀.size hg.axis)
    (j : Fin (s.size hg.axis')) :
    Storable (upEmb : UEmb _ 𝕄) (rowGot c src dst hg offs hn hs q qo fs fd fo hin j : sProp 𝕄) := by
  unfold rowGot; infer_instance

omit [Preorder Lvl] in
/-- All rows of a gather together: the destination written with the gathered rows, the source's share and the list
    back. -/
theorem rowGot_all {src : Memref sig c.2.kind sp s₀ e} {dst : Memref sig c.2.kind .vmem s e} {hg : s₀.Gathers a s}
    {offs : Memref sig c.2.kind .vmem si .i32} {hn : si.numel = s.size hg.axis'} {hs : 0 < s.numel}
    {q qo : PosShare TreeShare} {fs : Buf (Elt F) (src.view.loc c)} {fd : Buf (Elt F) (dst.view.loc c)}
    {fo : Buf (Elt F) (offs.view.loc c)} {hin : ∀ x, (offs.view.read (Elt F) fo x).toNat < s₀.size hg.axis} :
    (bigSep Finset.univ fun j => (rowGot c src dst hg offs hn hs q qo fs fd fo hin j : sProp 𝕄))
      ⊢ iprop((dst.view.loc c ↦[dst.view.set]{fullShare}
                (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) := by
  have hW : ∀ j i, (fun i => src.view.read (Elt F) fs (hg.rowIdx (rows (offs.view.read (Elt F) fo) hn hin j) i)) i
      = gatherPayload hg (src.view.read (Elt F) fs) (rows (offs.view.read (Elt F) fo) hn hin) ((s.rowRect hg.axis' j).emb i) := fun j i => by
    unfold gatherPayload; rw [Shape.Gathers.idx_rowRect_emb]
  have hrows : (bigSep Finset.univ fun j => (dst.view.loc c ↦[(dst.view.slice (s.rowRect hg.axis' j)).set]{fullShare}
            ((dst.view.slice (s.rowRect hg.axis' j)).write (Elt F) fd
              (fun i => src.view.read (Elt F) fs (hg.rowIdx (rows (offs.view.read (Elt F) fo) hn hin j) i)) Finset.univ) : sProp 𝕄))
      ⊢ (dst.view.loc c ↦[dst.view.set]{fullShare}
                (dst.view.write (Elt F) fd (gatherPayload hg (src.view.read (Elt F) fs) (rows (offs.view.read (Elt F) fo) hn hin)) Finset.univ)) :=
    pointsTo_rows_write c dst.view hg.axis' fd _ _ hW
  unfold rowGot
  iintro H
  ihave H := Transfers.bigSep_sep_out _ _ _ $$ H
  icases H with ⟨H, Hsrc⟩
  ihave H := Transfers.bigSep_sep_out _ _ _ $$ H
  icases H with ⟨Hrows, Hoffs⟩
  isplitl [Hrows]
  · iapply hrows $$ Hrows
  isplitl [Hsrc]
  · iapply (Entails.of_eq (pointsTo_piecesOf (src.view.set) fs (Shape.size_pos_of_numel_pos hs hg.axis') q).symm) $$ Hsrc
  iapply (Entails.of_eq (pointsTo_entries c offs.view (entryAt hn) (entryAt_bij hn) qo fo).symm) $$ Hoffs

/-- An indirect gather issued while its semaphore carries a batch of which `k` transfers have been issued and none
    waited for: the gather's rows become transfers `k, k + 1, …` of the batch. -/
theorem wp_gatherInto [Infinite Name] [EC.LandsIn (upEmb : UEmb _ 𝕄)] {n k : ℕ} {D : Fin n → sProp 𝕄}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {K : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N : ℕ) (hN : ∀ j, (dst.slice (s.rowRect hg.axis' j) (s.stride_rowRect hg.axis' j)).view.dmaCredit = N)
    (hs : 0 < s.numel) (hin : ∀ x, (offs.view.read (Elt F) fo x).toNat < s₀.size hg.axis)
    (t : Fin (s.size hg.axis') → Fin n) (ht : ∀ j, (t j).val = k + j.val)
    (hD : ∀ j, (rowGot c src dst hg offs hn hs q qo fs fd fo hin j : sProp 𝕄) ⊢ D (t j)) :
    iprop((src.view.loc c ↦[src.view.set]{q} fs) ∗ (dst.view.loc c ↦[dst.view.set]{fullShare} fd)
        ∗ (offs.view.loc c ↦[offs.view.set]{qo} fo) ∗ Transfers.Batch EC c (.dma sem) ι N D k 0)
      ⊢ iprop((Transfers.Batch EC c (.dma sem) ι N D (k + s.size hg.axis') 0 -∗ wp frame (wpE defs 𝒱 c bd) Set.univ (K ⟨⟩) Q)
          -∗ wp frame (wpE defs 𝒱 c bd) Set.univ (enqueueIndirectGather hp src dst hg offs hn sem hsrc he hsp hr >>= K) Q) := by
  rw [enqueueIndirectGather_bind]
  have ho : 0 < s.size hg.axis' := Shape.size_pos_of_numel_pos hs _
  let St : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hagree : St.RowsAgree := by
    intro j w w' d d' h h'
    obtain ⟨_, _, rfl⟩ := Option.map_eq_some_iff.mp h
    obtain ⟨_, _, rfl⟩ := Option.map_eq_some_iff.mp h'
    rfl
  have hrow : ∀ j, St.row j (St.word fo j) = some (rd j) := fun j => by
    change (rowOf (s₀.size hg.axis) (offs.view.read (Elt F) fo (St.entry j))).map _ = _
    rw [rowOf_of_lt (hin _)]; rfl
  have hsum : ∑ j, (rd j).dst.view.dmaCredit = s.size hg.axis' * N := by
    rw [Finset.sum_congr rfl (fun j _ => hN j), Finset.sum_const, Finset.card_univ, Fintype.card_fin, smul_eq_mul]
  unfold Transfers.Batch
  iintro ⟨Hs, Hd, Ho, ⟨%γ, %γ₀, %κ, #Hinv, HI, H0, Hcred⟩⟩ Hk
  ihave HI := (Entails.of_eq (pending_cut t ht (fun t => count EC (γ t) 0))) $$ HI
  icases HI with ⟨Hnow, HI⟩
  ihave Hd := (Entails.of_eq (pointsTo_rows c dst.view hg.axis' fullShare fd)) $$ Hd
  ihave Ho := (Entails.of_eq (pointsTo_entries c offs.view (entryAt hn) (entryAt_bij hn) qo fo)) $$ Ho
  ihave Hs := (Entails.of_eq (pointsTo_piecesOf (src.view.set) fs ho q)) $$ Hs
  iapply (wp_enqueueIndirectDma 𝒱 c bd Set.univ (qo := qo) (fo := fo) (rd := rd) ι (s.size hg.axis' * N) hagree hrow hsum) $$ [Hd Ho Hs Hnow]
  · have hone : ∀ j, iprop(inv κ (Transfers.batchBody EC (c, SemLoc.dma sem) N D γ γ₀)
          ∗ ((((dst.view.loc c ↦[(dst.view.slice (s.rowRect hg.axis' j)).set]{fullShare} fd)
              ∗ (offs.view.loc c ↦[{offs.view.emb (entryAt hn j)}]{qo} fo))
            ∗ (src.view.loc c ↦[src.view.set]{pieceOf q _ ho j} fs)) ∗ count EC (γ (t j)) 0))
        ⊢ iprop(St.heldEntry qo fo j ∗ (St.heldEntry qo fo j -∗ rowRes c (rd j))) := fun j => by
      iintro ⟨#Hinv, ⟨⟨Hr, He⟩, Hsq⟩, Hγ⟩
      isplitl [He]; · iexact He
      iintro He
      unfold rowRes
      iexists pieceOf q _ ho j, fs, iprop((dst.view.loc c ↦[(dst.view.slice (s.rowRect hg.axis' j)).set]{fullShare}
            ((dst.view.slice (s.rowRect hg.axis' j)).write (Elt F) fd (fun i => src.view.read (Elt F) fs (hg.rowIdx (r j) i)) Finset.univ))
          ∗ (offs.view.loc c ↦[{offs.view.emb (entryAt hn j)}]{qo} fo))
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · ihave H := (Transfers.batch_creditUpdate EC (g := (c, SemLoc.dma sem)) (N := N) (γ₀ := γ₀) (ι := κ) (t j) (hD j)) $$ [Hγ]
        · isplitr; · iexact Hinv
          iexact Hγ
        rw [← hN j]
        iexact H
    unfold Stream.res
    ihave H1 := Transfers.bigSep_sep_in _ _ _ $$ [Hd Ho]; · isplitl [Hd] <;> iassumption
    ihave H2 := Transfers.bigSep_sep_in _ _ _ $$ [H1 Hs]; · isplitl [H1] <;> iassumption
    ihave H3 := Transfers.bigSep_sep_in _ _ _ $$ [H2 Hnow]; · isplitl [H2] <;> iassumption
    iapply (Transfers.bigSep_mono_pers Finset.univ _ _ _ fun j _ => hone j)
    isplitr; · iexact Hinv
    iexact H3
  · iintro Hnew
    iapply Hk
    iexists γ, γ₀, κ
    isplitr; · iexact Hinv
    isplitl [HI]; · iexact HI
    isplitl [H0]; · iexact H0
    rw [Nat.sub_zero, Nat.sub_zero, Nat.add_mul, ← tallyAt_add]
    icombine Hcred Hnew as H
    iexact H

end Cert.Proof.Issue

end
-- ==== Proof.Slots.lean ====
/- The kernel's scratch slots and the blocks of its arrays, as one vector subcore addresses them: which elements each
   view covers, and where each element of a view lies. -/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ValueIdxCore
public import Idealize.ShloMosaic.Lib.ValueLayout
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Issue

@[expose] public section

noncomputable section

namespace Cert.Proof.Slots

open Cert.KernelIdeal Cert.KernelIdeal.Gen
open Idealize.ShloMosaic
open Idealize.ShloMosaic.ValueIdx

variable {F : FTy → Type}

abbrev tokV : Memref sig .scVector .hbm S819200 .i32 := Memref.whole main_v2_scv
abbrev tabV : Memref sig .scVector .hbm S100000x300 .f32 := Memref.whole main_arg1_scv
abbrev tlV : Memref sig .scVector .hbm S100000x128 .f32 := Memref.whole main_v1_scv
abbrev outV : Memref sig .scVector .hbm S819200x300 .f32 := Memref.whole main_v3_scv
abbrev idxV : Memref sig .scVector .vmem S3x80 .i32 := Memref.whole cc0_scratch0
abbrev rowV : Memref sig .scVector .vmem S3x80x300 .f32 := Memref.whole cc0_scratch1
abbrev tailV : Memref sig .scVector .vmem S3x80x128 .f32 := Memref.whole cc0_scratch2

/-! ## The views -/

/-- Slot `p` of the token scratch. -/
abbrev idxM (p : ℕ) (h : ∀ a, (![p, 0] : Fin 2 → ℕ) a + S1x80.size a ≤ S3x80.size a) : Memref sig .scVector .vmem S80 .i32 :=
  (idxV.slice (Rect.unit (s := S3x80) ![p, 0] S1x80.size h) (fun _ => rfl)).squeeze S80 squeezes_S1x80_S80
/-- Slot `p` of the row scratch. -/
abbrev rowM (p : ℕ) (h : ∀ a, (![p, 0, 0] : Fin 3 → ℕ) a + S1x80x300.size a ≤ S3x80x300.size a) : Memref sig .scVector .vmem S80x300 .f32 :=
  (rowV.slice (Rect.unit (s := S3x80x300) ![p, 0, 0] S1x80x300.size h) (fun _ => rfl)).squeeze S80x300 squeezes_S1x80x300_S80x300
/-- Columns `o … o + 127` of slot `p` of the row scratch. -/
abbrev colM (p o : ℕ) (h : ∀ a, (![p, 0, 0] : Fin 3 → ℕ) a + S1x80x300.size a ≤ S3x80x300.size a)
    (h' : ∀ a, (![0, o] : Fin 2 → ℕ) a + S80x128.size a ≤ S80x300.size a) : Memref sig .scVector .vmem S80x128 .f32 :=
  (rowM p h).slice (Rect.unit (s := S80x300) ![0, o] S80x128.size h') (fun _ => rfl)
/-- Slot `p` of the tail scratch. -/
abbrev tailM (p : ℕ) (h : ∀ a, (![p, 0, 0] : Fin 3 → ℕ) a + S1x80x128.size a ≤ S3x80x128.size a) : Memref sig .scVector .vmem S80x128 .f32 :=
  (tailV.slice (Rect.unit (s := S3x80x128) ![p, 0, 0] S1x80x128.size h) (fun _ => rfl)).squeeze S80x128 squeezes_S1x80x128_S80x128
/-- Columns `o … o + 127` of the table. -/
abbrev tabM (o : ℕ) (h : ∀ a, (![0, o] : Fin 2 → ℕ) a + S100000x128.size a ≤ S100000x300.size a) : Memref sig .scVector .hbm S100000x128 .f32 :=
  (tabV.slice (Rect.unit (s := S100000x300) ![0, o] S100000x128.size h) (fun _ => rfl)).slice
    (Rect.unit (s := S100000x128) ![0, 0] S100000x128.size inb_S100000x128_S100000x128_0_0) (fun _ => rfl)
/-- The tail table. -/
abbrev tlM : Memref sig .scVector .hbm S100000x128 .f32 :=
  tlV.slice (Rect.unit (s := S100000x128) ![0, 0] S100000x128.size inb_S100000x128_S100000x128_0_0) (fun _ => rfl)
/-- Eighty tokens. -/
abbrev tokM (off : Fin 1 → ℕ) (h : ∀ a, off a + S80.size a ≤ S819200.size a) : Memref sig .scVector .hbm S80 .i32 :=
  tokV.slice (Rect.unit (s := S819200) off S80.size h) (fun _ => rfl)
/-- Eighty rows of the result. -/
abbrev outM (off : Fin 2 → ℕ) (h : ∀ a, off a + S80x300.size a ≤ S819200x300.size a) : Memref sig .scVector .hbm S80x300 .f32 :=
  outV.slice (Rect.unit (s := S819200x300) off S80x300.size h) (fun _ => rfl)

/-! ## The element sets -/

abbrev idxSet (p : ℕ) : Finset S3x80.Idx := Finset.univ.filter fun x => (x 0).val = p
abbrev rowSet (p : ℕ) : Finset S3x80x300.Idx := Finset.univ.filter fun x => (x 0).val = p
abbrev colSet (p a b : ℕ) : Finset S3x80x300.Idx := Finset.univ.filter fun x => (x 0).val = p ∧ a ≤ (x 2).val ∧ (x 2).val < b
abbrev tailSet (p : ℕ) : Finset S3x80x128.Idx := Finset.univ.filter fun x => (x 0).val = p
abbrev outSet (a b : ℕ) : Finset S819200x300.Idx := Finset.univ.filter fun x => a ≤ (x 0).val ∧ (x 0).val < b

/-! ## Where a view's elements lie -/

theorem idxM_emb (p : ℕ) (h) (y : S80.Idx) :
    (((idxM p h).view.emb y : S3x80.Idx) 0).val = p ∧ (((idxM p h).view.emb y : S3x80.Idx) 1).val = (y 0).val := by
  have e : Shape.reshapeEquiv squeezes_S1x80_S80.numel_eq y = (Fin.cons (⟨0, Nat.one_pos⟩ : Fin 1) y : S1x80.Idx) :=
    Shape.reshapeEquiv_cons_one (n := 1) (d := ![80]) squeezes_S1x80_S80.numel_eq y
  show ((Rect.unit (s := S3x80) ![p, 0] S1x80.size h).emb (Shape.reshapeEquiv squeezes_S1x80_S80.numel_eq y) 0).val = p
    ∧ ((Rect.unit (s := S3x80) ![p, 0] S1x80.size h).emb (Shape.reshapeEquiv squeezes_S1x80_S80.numel_eq y) 1).val = (y 0).val
  rw [e]
  constructor
  · show p + 1 * 0 = p; omega
  · show 0 + 1 * (y 0).val = (y 0).val; omega

theorem rowM_emb (p : ℕ) (h) (y : S80x300.Idx) :
    (((rowM p h).view.emb y : S3x80x300.Idx) 0).val = p ∧ (((rowM p h).view.emb y : S3x80x300.Idx) 1).val = (y 0).val
      ∧ (((rowM p h).view.emb y : S3x80x300.Idx) 2).val = (y 1).val := by
  have e : Shape.reshapeEquiv squeezes_S1x80x300_S80x300.numel_eq y = (Fin.cons (⟨0, Nat.one_pos⟩ : Fin 1) y : S1x80x300.Idx) :=
    Shape.reshapeEquiv_cons_one (n := 2) (d := ![80, 300]) squeezes_S1x80x300_S80x300.numel_eq y
  show ((Rect.unit (s := S3x80x300) ![p, 0, 0] S1x80x300.size h).emb (Shape.reshapeEquiv squeezes_S1x80x300_S80x300.numel_eq y) 0).val = p
    ∧ ((Rect.unit (s := S3x80x300) ![p, 0, 0] S1x80x300.size h).emb (Shape.reshapeEquiv squeezes_S1x80x300_S80x300.numel_eq y) 1).val = (y 0).val
    ∧ ((Rect.unit (s := S3x80x300) ![p, 0, 0] S1x80x300.size h).emb (Shape.reshapeEquiv squeezes_S1x80x300_S80x300.numel_eq y) 2).val = (y 1).val
  rw [e]
  refine ⟨?_, ?_, ?_⟩
  · show p + 1 * 0 = p; omega
  · show 0 + 1 * (y 0).val = (y 0).val; omega
  · show 0 + 1 * (y 1).val = (y 1).val; omega

theorem tailM_emb (p : ℕ) (h) (y : S80x128.Idx) :
    (((tailM p h).view.emb y : S3x80x128.Idx) 0).val = p ∧ (((tailM p h).view.emb y : S3x80x128.Idx) 1).val = (y 0).val
      ∧ (((tailM p h).view.emb y : S3x80x128.Idx) 2).val = (y 1).val := by
  have e : Shape.reshapeEquiv squeezes_S1x80x128_S80x128.numel_eq y = (Fin.cons (⟨0, Nat.one_pos⟩ : Fin 1) y : S1x80x128.Idx) :=
    Shape.reshapeEquiv_cons_one (n := 2) (d := ![80, 128]) squeezes_S1x80x128_S80x128.numel_eq y
  show ((Rect.unit (s := S3x80x128) ![p, 0, 0] S1x80x128.size h).emb (Shape.reshapeEquiv squeezes_S1x80x128_S80x128.numel_eq y) 0).val = p
    ∧ ((Rect.unit (s := S3x80x128) ![p, 0, 0] S1x80x128.size h).emb (Shape.reshapeEquiv squeezes_S1x80x128_S80x128.numel_eq y) 1).val = (y 0).val
    ∧ ((Rect.unit (s := S3x80x128) ![p, 0, 0] S1x80x128.size h).emb (Shape.reshapeEquiv squeezes_S1x80x128_S80x128.numel_eq y) 2).val = (y 1).val
  rw [e]
  refine ⟨?_, ?_, ?_⟩
  · show p + 1 * 0 = p; omega
  · show 0 + 1 * (y 0).val = (y 0).val; omega
  · show 0 + 1 * (y 1).val = (y 1).val; omega

theorem colM_emb (p o : ℕ) (h h') (y : S80x128.Idx) :
    (((colM p o h h').view.emb y : S3x80x300.Idx) 0).val = p ∧ (((colM p o h h').view.emb y : S3x80x300.Idx) 1).val = (y 0).val
      ∧ (((colM p o h h').view.emb y : S3x80x300.Idx) 2).val = o + (y 1).val := by
  have e := rowM_emb p h ((Rect.unit (s := S80x300) ![0, o] S80x128.size h').emb y)
  refine ⟨e.1, e.2.1.trans ?_, e.2.2.trans ?_⟩
  · show 0 + 1 * (y 0).val = (y 0).val; omega
  · show o + 1 * (y 1).val = o + (y 1).val; omega

theorem tabM_emb (o : ℕ) (h) (y : S100000x128.Idx) :
    (((tabM o h).view.emb y : S100000x300.Idx) 0).val = (y 0).val ∧ (((tabM o h).view.emb y : S100000x300.Idx) 1).val = o + (y 1).val := by
  constructor
  · show 0 + 1 * (0 + 1 * (y 0).val) = (y 0).val; omega
  · show o + 1 * (0 + 1 * (y 1).val) = o + (y 1).val; omega

theorem tlM_emb (y : S100000x128.Idx) :
    ((tlM.view.emb y : S100000x128.Idx) 0).val = (y 0).val ∧ ((tlM.view.emb y : S100000x128.Idx) 1).val = (y 1).val := by
  constructor
  · show 0 + 1 * (y 0).val = (y 0).val; omega
  · show 0 + 1 * (y 1).val = (y 1).val; omega

theorem tokM_emb (off : Fin 1 → ℕ) (h) (y : S80.Idx) : (((tokM off h).view.emb y : S819200.Idx) 0).val = off 0 + (y 0).val := by
  show off 0 + 1 * (y 0).val = off 0 + (y 0).val; omega

theorem outM_emb (off : Fin 2 → ℕ) (h) (y : S80x300.Idx) :
    (((outM off h).view.emb y : S819200x300.Idx) 0).val = off 0 + (y 0).val
      ∧ (((outM off h).view.emb y : S819200x300.Idx) 1).val = off 1 + (y 1).val := by
  constructor
  · show off 0 + 1 * (y 0).val = off 0 + (y 0).val; omega
  · show off 1 + 1 * (y 1).val = off 1 + (y 1).val; omega

/-! ## Which elements a view covers -/

theorem idxM_set (p : ℕ) (h) : ((idxM p h).view.set : Finset S3x80.Idx) = idxSet p := by
  show ((((idxV).view.slice (Rect.unit (s := S3x80) ![p, 0] S1x80.size h)).reshape S80 squeezes_S1x80_S80.numel_eq).set : Finset S3x80.Idx) = _
  rw [View.set_reshape]
  show (((View.whole cc0_scratch0).slice (Rect.unit (s := S3x80) ![p, 0] S1x80.size h)).set : Finset S3x80.Idx) = _
  rw [View.set_slice_whole]
  ext x
  rw [Rect.mem_set_unit]
  simp only [Finset.mem_filter, Finset.mem_univ, true_and]
  have h1 : (x 1).val < 80 := (x 1).isLt
  constructor
  · intro H
    have := H 0
    simp only [Matrix.cons_val_zero] at this
    have e : S1x80.size 0 = 1 := rfl
    omega
  · intro e a
    match a with
    | ⟨0, _⟩ => exact ⟨show p ≤ (x 0).val by omega, show (x 0).val < p + 1 by omega⟩
    | ⟨1, _⟩ => exact ⟨Nat.zero_le _, show (x 1).val < 0 + 80 by omega⟩

theorem rowM_set (p : ℕ) (h) : ((rowM p h).view.set : Finset S3x80x300.Idx) = rowSet p := by
  show ((((rowV).view.slice (Rect.unit (s := S3x80x300) ![p, 0, 0] S1x80x300.size h)).reshape S80x300 squeezes_S1x80x300_S80x300.numel_eq).set : Finset S3x80x300.Idx) = _
  rw [View.set_reshape]
  show (((View.whole cc0_scratch1).slice (Rect.unit (s := S3x80x300) ![p, 0, 0] S1x80x300.size h)).set : Finset S3x80x300.Idx) = _
  rw [View.set_slice_whole]
  ext x
  rw [Rect.mem_set_unit]
  simp only [Finset.mem_filter, Finset.mem_univ, true_and]
  have h1 : (x 1).val < 80 := (x 1).isLt
  have h2 : (x 2).val < 300 := (x 2).isLt
  constructor
  · intro H
    have := H 0
    simp only [Matrix.cons_val_zero] at this
    have e : S1x80x300.size 0 = 1 := rfl
    omega
  · intro e a
    match a with
    | ⟨0, _⟩ => exact ⟨show p ≤ (x 0).val by omega, show (x 0).val < p + 1 by omega⟩
    | ⟨1, _⟩ => exact ⟨Nat.zero_le _, show (x 1).val < 0 + 80 by omega⟩
    | ⟨2, _⟩ => exact ⟨Nat.zero_le _, show (x 2).val < 0 + 300 by omega⟩

theorem tailM_set (p : ℕ) (h) : ((tailM p h).view.set : Finset S3x80x128.Idx) = tailSet p := by
  show ((((tailV).view.slice (Rect.unit (s := S3x80x128) ![p, 0, 0] S1x80x128.size h)).reshape S80x128 squeezes_S1x80x128_S80x128.numel_eq).set : Finset S3x80x128.Idx) = _
  rw [View.set_reshape]
  show (((View.whole cc0_scratch2).slice (Rect.unit (s := S3x80x128) ![p, 0, 0] S1x80x128.size h)).set : Finset S3x80x128.Idx) = _
  rw [View.set_slice_whole]
  ext x
  rw [Rect.mem_set_unit]
  simp only [Finset.mem_filter, Finset.mem_univ, true_and]
  have h1 : (x 1).val < 80 := (x 1).isLt
  have h2 : (x 2).val < 128 := (x 2).isLt
  constructor
  · intro H
    have := H 0
    simp only [Matrix.cons_val_zero] at this
    have e : S1x80x128.size 0 = 1 := rfl
    omega
  · intro e a
    match a with
    | ⟨0, _⟩ => exact ⟨show p ≤ (x 0).val by omega, show (x 0).val < p + 1 by omega⟩
    | ⟨1, _⟩ => exact ⟨Nat.zero_le _, show (x 1).val < 0 + 80 by omega⟩
    | ⟨2, _⟩ => exact ⟨Nat.zero_le _, show (x 2).val < 0 + 128 by omega⟩

/-- An element of a view's buffer lies in the view exactly when it is where some index of the view lies. -/
theorem mem_view_set {sp : Space} {s : Shape} {e : EltTy} {κ : Kind} (v : View sig κ sp s e) (x : v.ty.Idx) :
    x ∈ v.set ↔ ∃ y, v.emb y = x := by
  unfold View.set; simp only [Finset.mem_map, Finset.mem_univ, true_and]

theorem colM_set (p o : ℕ) (h h') : ((colM p o h h').view.set : Finset S3x80x300.Idx) = colSet p o (o + 128) := by
  ext x
  refine (mem_view_set (colM p o h h').view x).trans ?_
  simp only [Finset.mem_filter, Finset.mem_univ, true_and]
  have h1 : (x 1).val < 80 := (x 1).isLt
  constructor
  · rintro ⟨y, rfl⟩
    have e := colM_emb p o h h' y
    have hy : (y 1).val < 128 := (y 1).isLt
    exact ⟨e.1, le_of_le_of_eq (Nat.le_add_right o _) e.2.2.symm, lt_of_eq_of_lt e.2.2 (by omega)⟩
  · rintro ⟨e, ha, hb⟩
    refine ⟨ix2 ⟨(x 1).val, h1⟩ ⟨(x 2).val - o, by omega⟩, ?_⟩
    have e' := colM_emb p o h h' (ix2 ⟨(x 1).val, h1⟩ ⟨(x 2).val - o, by omega⟩)
    funext a
    match a with
    | ⟨0, _⟩ => exact Fin.ext (e'.1.trans e.symm)
    | ⟨1, _⟩ => exact Fin.ext e'.2.1
    | ⟨2, _⟩ => exact Fin.ext (e'.2.2.trans (show o + ((x 2).val - o) = (x 2).val by omega))

theorem outM_set (n : ℕ) (off : Fin 2 → ℕ) (h) (e : off = ![n, 0]) : ((outM off h).view.set : Finset S819200x300.Idx) = outSet n (n + 80) := by
  subst e
  show (((View.whole main_v3_scv).slice (Rect.unit (s := S819200x300) ![n, 0] S80x300.size h)).set : Finset S819200x300.Idx) = _
  rw [View.set_slice_whole]
  ext x
  rw [Rect.mem_set_unit]
  simp only [Finset.mem_filter, Finset.mem_univ, true_and]
  have h1 : (x 1).val < 300 := (x 1).isLt
  constructor
  · intro H
    have := H 0
    simp only [Matrix.cons_val_zero] at this
    have e : S80x300.size 0 = 80 := rfl
    omega
  · intro e a
    match a with
    | ⟨0, _⟩ => exact ⟨show n ≤ (x 0).val by omega, show (x 0).val < n + 80 by omega⟩
    | ⟨1, _⟩ => exact ⟨Nat.zero_le _, show (x 1).val < 0 + 300 by omega⟩

/-! ## What a view reads and what writing through it leaves -/

theorem idxM_read (p : ℕ) (h) (f : S3x80.Idx → Elt F .i32) (y : S80.Idx) : (idxM p h).view.read (Elt F) f y = f ((idxM p h).view.emb y) := rfl
theorem rowM_read (p : ℕ) (h) (f : S3x80x300.Idx → Elt F .f32) (y : S80x300.Idx) : (rowM p h).view.read (Elt F) f y = f ((rowM p h).view.emb y) := rfl
theorem tokM_read (off) (h) (f : S819200.Idx → Elt F .i32) (y : S80.Idx) : (tokM off h).view.read (Elt F) f y = f ((tokM off h).view.emb y) := rfl
theorem tabM_read (o) (h) (f : S100000x300.Idx → Elt F .f32) (y : S100000x128.Idx) : (tabM o h).view.read (Elt F) f y = f ((tabM o h).view.emb y) := rfl
theorem tlM_read (f : S100000x128.Idx → Elt F .f32) (y : S100000x128.Idx) : tlM.view.read (Elt F) f y = f (tlM.view.emb y) := rfl

/-- Writing a whole view: where an index of the view lies the buffer holds the vector's value. -/
theorem write_at {sp : Space} {s : Shape} {e : EltTy} {κ : Kind} (v : View sig κ sp s e) (f : v.ty.Contents (Elt F)) (w : s.Idx → Elt F e) (y : s.Idx) :
    v.write (Elt F) f w Finset.univ (v.emb y) = _root_.cast (congrArg (Elt F) v.elt_eq.symm) (w y) :=
  View.write_emb_of_mem f w (Finset.mem_univ y)

/-! ## What the transfers credit -/

theorem idxM_credit (p h) : (idxM p h).view.dmaCredit = 2560 := rfl
theorem outM_credit (off h) : (outM off h).view.dmaCredit = 768000 := rfl
theorem tailM_credit (p h) : (tailM p h).view.dmaCredit = 80 * 4096 := rfl
set_option maxRecDepth 100000 in
theorem colM_row_credit (p o h h') (j) : ((colM p o h h').slice (S80x128.rowRect (gathers_S100000x128_S80x128).axis' j) (S80x128.stride_rowRect _ j)).view.dmaCredit = 4096 := rfl
set_option maxRecDepth 100000 in
theorem tailM_row_credit (p h) (j) : ((tailM p h).slice (S80x128.rowRect (gathers_S100000x128_S80x128).axis' j) (S80x128.stride_rowRect _ j)).view.dmaCredit = 4096 := rfl

end Cert.Proof.Slots

end
-- ==== Proof.State.lean ====
/- What a vector subcore holds of its scratch slots, its arrays and its semaphores between two steps of the kernel, and
   the rules of the kernel's single transfers over it. -/
module

public import proofs.«01_k».proof.Proof.Slots
public import Idealize.ShloMosaic.Lib.Batch

@[expose] public section

noncomputable section

namespace Cert.Proof.State

open Cert.KernelIdeal Cert.KernelIdeal.Gen Cert.Proof.Slots Cert.Proof.Issue
open Idealize.ShloMosaic
open Idealize.ShloMosaic.ValueIdx
open Idealize.ShloMosaic.SparseCore (S V T rows gatherPayload)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev 𝒱₀ : Variants := Variants.none
abbrev UH : Type := URounds (GSem nD τ sig) ℕ
abbrev UU : Type := UH × Counters

local notation "𝕄" => MT nD τ sig (HIx 1) (Elt F) ℕ UU ℕ

/-- The index every wait of the kernel is recorded at. -/
abbrev ι₀ : HIx 1 := default

/-! ## The values -/

section Values

variable (tok : S819200.Idx → Elt F .i32) (tab : S100000x300.Idx → Elt F .f32)

/-- Token `n`. -/
def tokAt (n : ℕ) : BitVec 32 := tok (ix1 ⟨n % 819200, Nat.mod_lt _ (by norm_num)⟩)
/-- Element `c` of row `r` of the table. -/
def tabAt (r c : ℕ) : Elt F .f32 := tab (ix2 ⟨r % 100000, Nat.mod_lt _ (by norm_num)⟩ ⟨c % 300, Nat.mod_lt _ (by norm_num)⟩)
/-- Element `c` of row `n` of the result: element `c` of the table's row that token `n` names. -/
def resAt (n c : ℕ) : Elt F .f32 := tabAt tab (tokAt tok n).toNat c
/-- The result. -/
def res : S819200x300.Idx → Elt F .f32 := fun x => resAt tok tab (x 0).val (x 1).val

theorem tok_eq (x : S819200.Idx) : tok x = tokAt tok (x 0).val := by
  unfold tokAt
  have h : (x 0).val < 819200 := (x 0).isLt
  exact congrArg tok ((eq_ix1 x).trans (by congr 1; exact Fin.ext (Nat.mod_eq_of_lt h).symm))

theorem tab_eq (x : S100000x300.Idx) : tab x = tabAt tab (x 0).val (x 1).val := by
  unfold tabAt
  have h : (x 0).val < 100000 := (x 0).isLt
  have h' : (x 1).val < 300 := (x 1).isLt
  refine congrArg tab ((eq_ix2 x).trans ?_)
  congr 1
  · exact Fin.ext (Nat.mod_eq_of_lt h).symm
  · exact Fin.ext (Nat.mod_eq_of_lt h').symm

end Values

variable [FloatOps F]
variable (d : Dev nD) (sc : Fin τ.nSC) (su : Fin τ.nSub)
variable (tok : S819200.Idx → Elt F .i32) (tab : S100000x300.Idx → Elt F .f32) (tl : S100000x128.Idx → Elt F .f32)

/-! ## What is held -/

/-- Some share of the tokens. -/
def TokSh : sProp 𝕄 := iprop(∃ q, tokV.view.loc (V d sc su) ↦{q} tok)
/-- Some share of the table. -/
def TabSh : sProp 𝕄 := iprop(∃ q, tabV.view.loc (V d sc su) ↦{q} tab)
/-- Some share of the tail table. -/
def TlSh : sProp 𝕄 := iprop(∃ q, tlV.view.loc (V d sc su) ↦{q} tl)
/-- Slot `p` of the token scratch, at some contents. -/
def IdxAny (p : ℕ) : sProp 𝕄 := iprop(∃ f : S3x80.Idx → Elt F .i32, idxV.view.loc (V d sc su) ↦[idxSet p]{fullShare} f)
/-- Slot `p` of the token scratch, holding the eighty tokens from `n` on. -/
def IdxHas (n p : ℕ) : sProp 𝕄 :=
  iprop(∃ f : S3x80.Idx → Elt F .i32, ⌜∀ x, (x 0).val = p → f x = tokAt tok (n + (x 1).val)⌝ ∗ idxV.view.loc (V d sc su) ↦[idxSet p]{fullShare} f)
/-- Columns `a … b - 1` of slot `p` of the row scratch, at some contents. -/
def ColAny (p a b : ℕ) : sProp 𝕄 := iprop(∃ f : S3x80x300.Idx → Elt F .f32, rowV.view.loc (V d sc su) ↦[colSet p a b]{fullShare} f)
/-- Columns `a … b - 1` of slot `p` of the row scratch, holding those of the eighty result rows from `n` on. -/
def ColHas (n p a b : ℕ) : sProp 𝕄 :=
  iprop(∃ f : S3x80x300.Idx → Elt F .f32, ⌜∀ x ∈ colSet p a b, f x = resAt tok tab (n + (x 1).val) (x 2).val⌝
    ∗ rowV.view.loc (V d sc su) ↦[colSet p a b]{fullShare} f)
/-- Slot `p` of the row scratch, at some contents. -/
def RowAny (p : ℕ) : sProp 𝕄 := iprop(∃ f : S3x80x300.Idx → Elt F .f32, rowV.view.loc (V d sc su) ↦[rowSet p]{fullShare} f)
/-- Slot `p` of the row scratch, holding the eighty result rows from `n` on. -/
def RowHas (n p : ℕ) : sProp 𝕄 :=
  iprop(∃ f : S3x80x300.Idx → Elt F .f32, ⌜∀ x, (x 0).val = p → f x = resAt tok tab (n + (x 1).val) (x 2).val⌝
    ∗ rowV.view.loc (V d sc su) ↦[rowSet p]{fullShare} f)
/-- Slot `p` of the tail scratch, at some contents. -/
def TailAny (p : ℕ) : sProp 𝕄 := iprop(∃ f : S3x80x128.Idx → Elt F .f32, tailV.view.loc (V d sc su) ↦[tailSet p]{fullShare} f)
/-- Slot `p` of the tail scratch, its first 44 columns holding columns 256 … 299 of the eighty result rows from `n` on. -/
def TailHas (n p : ℕ) : sProp 𝕄 :=
  iprop(∃ f : S3x80x128.Idx → Elt F .f32, ⌜∀ x, (x 0).val = p → (x 2).val < 44 → f x = resAt tok tab (n + (x 1).val) (256 + (x 2).val)⌝
    ∗ tailV.view.loc (V d sc su) ↦[tailSet p]{fullShare} f)
/-- Rows `a … b - 1` of the result array, at some contents. -/
def OutAny (a b : ℕ) : sProp 𝕄 := iprop(∃ f : S819200x300.Idx → Elt F .f32, outV.view.loc (V d sc su) ↦[outSet a b]{fullShare} f)
/-- Rows `a … b - 1` of the result array, holding the result. -/
def OutHas (a b : ℕ) : sProp 𝕄 := outV.view.loc (V d sc su) ↦[outSet a b]{fullShare} (res tok tab : S819200x300.Idx → Elt F .f32)

/-- What the subcore owes, its waits beyond `W` all recorded at the kernel's own index. -/
def Owe (O : CellTallies nD τ sig (HIx 1)) (W : Waits sig (HIx 1)) : sProp 𝕄 :=
  iprop(∃ W', ⌜∀ p ∈ W', p ∈ W ∨ p.2 = none⌝ ∗ owes (V d sc su) O W')

variable (O : CellTallies nD τ sig (HIx 1)) (W : Waits sig (HIx 1))

theorem owe_insert {W' : Waits sig (HIx 1)} {sem : DmaSem sig} (h : ∀ p ∈ W', p ∈ W ∨ p.2 = none) :
    (owes (V d sc su) O (insert (SemLoc.dma sem, ι₀) W') : sProp 𝕄) ⊢ Owe d sc su O W := by
  unfold Owe
  iintro H
  iexists _; isplitr
  swap; · iexact H
  ipureintro; intro p hp
  rcases Finset.mem_insert.mp hp with hp | hp
  · exact .inr (hp ▸ rfl)
  · exact h p hp

variable {α : Type} {Q : α → sProp (MT nD τ sig (HIx 1) (Elt F) ℕ UU ℕ)}

/-! ## The transfers of the tokens -/

/-- The copy of eighty tokens into slot `p` starts: the slot is in the transfer until its wait, which hands it back
    holding them. -/
theorem wp_idxLoad (p n : ℕ) (off : Fin 1 → ℕ) (he : off = ![n]) {h h'} {sem : DmaSem sig} {hsrc hdst hty}
    {K : PUnit → Prog (TpuEff nD τ sig (Elt F) Λ₀ (.scVector sc su)) α} :
    iprop(TokSh d sc su tok ∗ IdxAny d sc su p ∗ semVal (V d sc su, .dma sem) 0)
      ⊢ iprop((iprop(TokSh d sc su tok ∗ Transfers.Flight countersEmb (V d sc su) (.dma sem) ι₀ 2560 (IdxHas d sc su tok n p)) -∗ wp frame (wpE (defs₀ (F := F)) 𝒱₀ (V d sc su) none) Set.univ (K ⟨⟩) Q)
        -∗ wp frame (wpE (defs₀ (F := F)) 𝒱₀ (V d sc su) none) Set.univ (.op (.enqueueDma (tokM off h) (.here (idxM p h')) (.dma sem) hsrc hdst hty) K) Q) := by
  unfold TokSh IdxAny
  iintro ⟨⟨%q, Ht⟩, ⟨%f, Hi⟩, Hs⟩ Hk
  ihave Ht := (pointsTo_share (PosShare.mem_left_op_right q)).1 $$ Ht
  icases Ht with ⟨Ht, Ht'⟩
  ihave Ht := (pointsTo_split_subset (S := Finset.univ) (Finset.subset_univ (tokM off h).view.set)).1 $$ Ht
  icases Ht with ⟨Ht, -⟩
  iapply (Transfers.wp_dmaLocal countersEmb 𝒱₀ (V d sc su) none (src := tokM off h) (dst := idxM p h') ι₀ 2560 rfl (by norm_num)
    (Sd := idxSet p) (idxM_set p h').subset) $$ [Ht Hi Hs]
  · isplitl [Ht]; · iexact Ht
    isplitl [Hi]; · iexact Hi
    iexact Hs
  iintro Hf
  iapply Hk
  isplitl [Ht']; · iexists _; iexact Ht'
  iapply (Transfers.Flight_mono countersEmb (V d sc su) ?_) $$ Hf
  unfold IdxHas
  iintro ⟨Hi, -⟩
  iexists _
  isplitr
  swap; · iexact Hi
  ipureintro
  intro x hx
  obtain ⟨y, rfl⟩ := (mem_view_set (idxM p h').view x).mp ((idxM_set p h').symm ▸ (by simpa using hx))
  refine (write_at (idxM p h').view f _ y).trans ?_
  have e1 := (idxM_emb p h' y).2
  have e2 := tokM_emb off h y
  subst he
  refine (tok_eq tok _).trans (congrArg (tokAt tok) ?_)
  exact e2.trans (congrArg (n + ·) e1.symm)

/-- The wait for a slot's tokens. -/
theorem wp_idxWait (p n : ℕ) {off : Fin 1 → ℕ} {h h'} {sem : DmaSem sig} {hsrc hdst}
    {K : PUnit → Prog (TpuEff nD τ sig (Elt F) Λ₀ (.scVector sc su)) α} :
    iprop(Transfers.Flight countersEmb (V d sc su) (.dma sem) ι₀ 2560 (IdxHas d sc su tok n p) ∗ Owe d sc su O W ∗ Transfers.MayWaits (V d sc su) ι₀ O)
      ⊢ iprop((iprop(IdxHas d sc su tok n p ∗ semVal (V d sc su, .dma sem) 0 ∗ Owe d sc su O W) -∗ wp frame (wpE (defs₀ (F := F)) 𝒱₀ (V d sc su) none) Set.univ (K ⟨⟩) Q)
        -∗ wp frame (wpE (defs₀ (F := F)) 𝒱₀ (V d sc su) none) Set.univ (.op (.waitDma2 sem (tokM off h) (idxM p h') hsrc hdst) K) Q) := by
  unfold Owe
  iintro ⟨Hf, ⟨%W', %hW, HO⟩, Hmw⟩ Hk
  iapply (Transfers.wp_waitLocalO countersEmb 𝒱₀ (V d sc su) none ι₀ (dstw := idxM p h') (N := 2560) rfl) $$ [Hf HO Hmw]
  · isplitl [Hf]; · iexact Hf
    isplitl [HO]; · iexact HO
    iapply (Transfers.MayWaits.elim (SemLoc.dma sem)) $$ Hmw
  iintro ⟨Hi, Hs, HO⟩
  iapply Hk
  isplitl [Hi]; · iexact Hi
  isplitl [Hs]; · iexact Hs
  ihave HO := (owe_insert d sc su O W hW) $$ HO
  unfold Owe
  iexact HO

/-! ## The transfers of the result -/

/-- The copy of slot `p` to eighty rows of the result starts. -/
theorem wp_store (p n : ℕ) (off : Fin 2 → ℕ) (he : off = ![n, 0]) {h h'} {sem : DmaSem sig} {hsrc hdst hty}
    {K : PUnit → Prog (TpuEff nD τ sig (Elt F) Λ₀ (.scVector sc su)) α} :
    iprop(RowHas d sc su tok tab n p ∗ OutAny (F := F) d sc su n (n + 80) ∗ semVal (V d sc su, .dma sem) 0)
      ⊢ iprop((Transfers.Flight countersEmb (V d sc su) (.dma sem) ι₀ 768000 iprop(RowAny (F := F) d sc su p ∗ OutHas d sc su tok tab n (n + 80)) -∗ wp frame (wpE (defs₀ (F := F)) 𝒱₀ (V d sc su) none) Set.univ (K ⟨⟩) Q)
        -∗ wp frame (wpE (defs₀ (F := F)) 𝒱₀ (V d sc su) none) Set.univ (.op (.enqueueDma (rowM p h') (.here (outM off h)) (.dma sem) hsrc hdst hty) K) Q) := by
  unfold RowHas OutAny
  iintro ⟨⟨%f, %hf, Hr⟩, ⟨%g, Ho⟩, Hs⟩ Hk
  ihave Hr := (Entails.of_eq (show (rowV.view.loc (V d sc su) ↦[rowSet p]{fullShare} f : sProp 𝕄)
    = (rowM p h').view.loc (V d sc su) ↦[(rowM p h').view.set]{fullShare} f by rw [rowM_set])) $$ Hr
  iapply (Transfers.wp_dmaLocal countersEmb 𝒱₀ (V d sc su) none (src := rowM p h') (dst := outM off h) ι₀ 768000 rfl (by norm_num)
    (Sd := outSet n (n + 80)) (outM_set n off h he).subset) $$ [Hr Ho Hs]
  · isplitl [Hr]; · iexact Hr
    isplitl [Ho]; · iexact Ho
    iexact Hs
  iintro Hf
  iapply Hk
  iapply (Transfers.Flight_mono countersEmb (V d sc su) ?_) $$ Hf
  iintro ⟨Ho, Hr⟩
  isplitl [Hr]
  · unfold RowAny; iexists f
    iapply (Entails.of_eq (show ((rowM p h').view.loc (V d sc su) ↦[(rowM p h').view.set]{fullShare} f : sProp 𝕄)
      = rowV.view.loc (V d sc su) ↦[rowSet p]{fullShare} f by rw [rowM_set])) $$ Hr
  unfold OutHas
  iapply (Entails.of_eq (pointsTo_congr ?_)) $$ Ho
  intro x hx
  obtain ⟨y, rfl⟩ := (mem_view_set (outM off h).view x).mp ((outM_set n off h he).symm ▸ hx)
  refine (write_at (outM off h).view g _ y).trans ?_
  have e1 := outM_emb off h y
  have e2 := rowM_emb p h' y
  subst he
  refine (hf _ e2.1).trans ?_
  unfold res
  congr 1
  · exact (congrArg (n + ·) e2.2.1).trans e1.1.symm
  · exact e2.2.2.trans ((Nat.zero_add _).symm.trans e1.2.symm)

/-- The wait for a slot's copy to the result. -/
theorem wp_storeWait (p n : ℕ) {off : Fin 2 → ℕ} {h h'} {sem : DmaSem sig} {hsrc hdst}
    {K : PUnit → Prog (TpuEff nD τ sig (Elt F) Λ₀ (.scVector sc su)) α} :
    iprop(Transfers.Flight countersEmb (V d sc su) (.dma sem) ι₀ 768000 iprop(RowAny (F := F) d sc su p ∗ OutHas d sc su tok tab n (n + 80))
        ∗ Owe d sc su O W ∗ Transfers.MayWaits (V d sc su) ι₀ O)
      ⊢ iprop((iprop(RowAny (F := F) d sc su p ∗ OutHas d sc su tok tab n (n + 80) ∗ semVal (V d sc su, .dma sem) 0 ∗ Owe d sc su O W) -∗ wp frame (wpE (defs₀ (F := F)) 𝒱₀ (V d sc su) none) Set.univ (K ⟨⟩) Q)
        -∗ wp frame (wpE (defs₀ (F := F)) 𝒱₀ (V d sc su) none) Set.univ (.op (.waitDma2 sem (rowM p h') (outM off h) hsrc hdst) K) Q) := by
  unfold Owe
  iintro ⟨Hf, ⟨%W', %hW, HO⟩, Hmw⟩ Hk
  iapply (Transfers.wp_waitLocalO countersEmb 𝒱₀ (V d sc su) none ι₀ (dstw := outM off h) (N := 768000) rfl) $$ [Hf HO Hmw]
  · isplitl [Hf]; · iexact Hf
    isplitl [HO]; · iexact HO
    iapply (Transfers.MayWaits.elim (SemLoc.dma sem)) $$ Hmw
  iintro ⟨⟨Hr, Ho⟩, Hs, HO⟩
  iapply Hk
  isplitl [Hr]; · iexact Hr
  isplitl [Ho]; · iexact Ho
  isplitl [Hs]; · iexact Hs
  ihave HO := (owe_insert d sc su O W hW) $$ HO
  unfold Owe
  iexact HO

end Cert.Proof.State

end
-- ==== Proof.Gather.lean ====
/- The three gathers that fill a slot, all on one semaphore, and the three waits for them. -/
module

public import proofs.«01_k».proof.Proof.State

@[expose] public section

noncomputable section

namespace Cert.Proof.Gather

open Cert.KernelIdeal Cert.KernelIdeal.Gen Cert.Proof.Slots Cert.Proof.Issue Cert.Proof.State
open Idealize.ShloMosaic
open Idealize.ShloMosaic.ValueIdx
open Idealize.ShloMosaic.SparseCore (S V T rows gatherPayload)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (sc : Fin τ.nSC) (su : Fin τ.nSub)
variable (tok : S819200.Idx → Elt F .i32) (tab : S100000x300.Idx → Elt F .f32) (tl : S100000x128.Idx → Elt F .f32)

/-! ## In-bounds facts of a slot -/

theorem inbI {p : ℕ} (hp : p < 3) : ∀ a, (![p, 0] : Fin 2 → ℕ) a + S1x80.size a ≤ S3x80.size a := fun a => by
  match a with
  | ⟨0, _⟩ => show p + 1 ≤ 3; omega
  | ⟨1, _⟩ => show 0 + 80 ≤ 80; omega
theorem inbR {p : ℕ} (hp : p < 3) : ∀ a, (![p, 0, 0] : Fin 3 → ℕ) a + S1x80x300.size a ≤ S3x80x300.size a := fun a => by
  match a with
  | ⟨0, _⟩ => show p + 1 ≤ 3; omega
  | ⟨1, _⟩ => show 0 + 80 ≤ 80; omega
  | ⟨2, _⟩ => show 0 + 300 ≤ 300; omega
theorem inbT {p : ℕ} (hp : p < 3) : ∀ a, (![p, 0, 0] : Fin 3 → ℕ) a + S1x80x128.size a ≤ S3x80x128.size a := fun a => by
  match a with
  | ⟨0, _⟩ => show p + 1 ≤ 3; omega
  | ⟨1, _⟩ => show 0 + 80 ≤ 80; omega
  | ⟨2, _⟩ => show 0 + 128 ≤ 128; omega

/-! ## What a gather lands -/

theorem idx_coord (r) (y : S80x128.Idx) :
    ((gathers_S100000x128_S80x128.idx r y : S100000x128.Idx) 0).val = (r (y 0)).val
      ∧ ((gathers_S100000x128_S80x128.idx r y : S100000x128.Idx) 1).val = (y 1).val := ⟨rfl, rfl⟩

theorem rows_val {hn : S80.numel = S80x128.size gathers_S100000x128_S80x128.axis'} (p n : ℕ) (h) (fo : S3x80.Idx → Elt F .i32)
    (hfo : ∀ x, (x 0).val = p → fo x = tokAt tok (n + (x 1).val))
    (hin : ∀ x, ((idxM p h).view.read (Elt F) fo x).toNat < S100000x128.size gathers_S100000x128_S80x128.axis) (k : Fin 80) :
    (rows ((idxM p h).view.read (Elt F) fo) hn hin k).val = (tokAt tok (n + k.val)).toNat := by
  show (fo ((idxM p h).view.emb (S80.rowMajor.symm (k.cast hn.symm)))).toNat = _
  have e := idxM_emb p h (S80.rowMajor.symm (k.cast hn.symm))
  have e' : ((S80.rowMajor.symm (k.cast hn.symm)) 0).val = k.val := by
    have := Shape.rowMajor_val_one (S80.rowMajor.symm (k.cast hn.symm))
    rw [Equiv.apply_symm_apply] at this
    exact this.symm
  refine congrArg BitVec.toNat ((hfo _ e.1).trans (congrArg (tokAt tok) ?_))
  exact congrArg (n + ·) (e.2.trans e')

theorem idx_in (htok : ∀ n, (tokAt tok n).toNat < 100000) (p n : ℕ) (h) (fo : S3x80.Idx → Elt F .i32)
    (hfo : ∀ x, (x 0).val = p → fo x = tokAt tok (n + (x 1).val)) :
    ∀ x, ((idxM p h).view.read (Elt F) fo x).toNat < S100000x128.size gathers_S100000x128_S80x128.axis := fun x => by
  have e := idxM_emb p h x
  have := hfo _ e.1
  show (fo ((idxM p h).view.emb x)).toNat < 100000
  rw [this]
  exact htok _

theorem tabAt_mod (r c : ℕ) : tabAt tab (r % 100000) c = tabAt tab r c := by
  unfold tabAt; congr 2; exact Fin.ext (Nat.mod_mod _ _)

/-- A gather from the table's columns `o … o + 127` leaves those columns of the result's rows. -/
theorem col_value (p n o : ℕ) (h h' h'' hi) {hn : S80.numel = S80x128.size gathers_S100000x128_S80x128.axis'} (fd : S3x80x300.Idx → Elt F .f32) (fo : S3x80.Idx → Elt F .i32)
    (hfo : ∀ x, (x 0).val = p → fo x = tokAt tok (n + (x 1).val)) (hin) :
    ∀ x ∈ colSet p o (o + 128), (colM p o h h').view.write (Elt F) fd
      (gatherPayload gathers_S100000x128_S80x128 ((tabM o h'').view.read (Elt F) tab) (rows ((idxM p hi).view.read (Elt F) fo) hn hin)) Finset.univ x
        = resAt tok tab (n + (x 1).val) (x 2).val := by
  intro x hx
  obtain ⟨y, rfl⟩ := (mem_view_set (colM p o h h').view x).mp ((colM_set p o h h').symm ▸ hx)
  refine (write_at (colM p o h h').view fd _ y).trans ?_
  have e1 := colM_emb p o h h' y
  have e2 := tabM_emb o h'' (gathers_S100000x128_S80x128.idx (rows ((idxM p hi).view.read (Elt F) fo) hn hin) y)
  have e3 := idx_coord (rows ((idxM p hi).view.read (Elt F) fo) hn hin) y
  have e4 := rows_val (F := F) tok p n hi fo hfo hin (hn := hn) (y 0)
  show tab _ = _
  refine (tab_eq tab _).trans ?_
  unfold resAt
  congr 1
  · exact (e2.1.trans e3.1).trans (e4.trans (congrArg (fun k => (tokAt tok (n + k)).toNat) e1.2.1.symm))
  · exact (e2.2.trans (congrArg (o + ·) e3.2)).trans e1.2.2.symm

/-- A gather from the tail table leaves, in its first 44 columns, columns 256 … 299 of the result's rows. -/
theorem tail_value (htl : ∀ x : S100000x128.Idx, (x 1).val < 44 → tl x = tabAt tab (x 0).val (256 + (x 1).val))
    (p n : ℕ) (h hi) {hn : S80.numel = S80x128.size gathers_S100000x128_S80x128.axis'} (fd : S3x80x128.Idx → Elt F .f32) (fo : S3x80.Idx → Elt F .i32)
    (hfo : ∀ x, (x 0).val = p → fo x = tokAt tok (n + (x 1).val)) (hin) :
    ∀ x : S3x80x128.Idx, (x 0).val = p → (x 2).val < 44 → (tailM p h).view.write (Elt F) fd
      (gatherPayload gathers_S100000x128_S80x128 (tlM.view.read (Elt F) tl) (rows ((idxM p hi).view.read (Elt F) fo) hn hin)) Finset.univ x
        = resAt tok tab (n + (x 1).val) (256 + (x 2).val) := by
  intro x hx hx2
  obtain ⟨y, rfl⟩ := (mem_view_set (tailM p h).view x).mp ((tailM_set p h).symm ▸ (by simpa using hx))
  refine (write_at (tailM p h).view fd _ y).trans ?_
  have e1 := tailM_emb p h y
  have e2 := tlM_emb (gathers_S100000x128_S80x128.idx (rows ((idxM p hi).view.read (Elt F) fo) hn hin) y)
  have e3 := idx_coord (rows ((idxM p hi).view.read (Elt F) fo) hn hin) y
  have e4 := rows_val (F := F) tok p n hi fo hfo hin (hn := hn) (y 0)
  show tl _ = _
  have e5 := (e2.2.trans e3.2).trans e1.2.2.symm
  refine (htl _ (lt_of_eq_of_lt e5 hx2)).trans ?_
  unfold resAt
  congr 1
  · exact (e2.1.trans e3.1).trans (e4.trans (congrArg (fun k => (tokAt tok (n + k)).toNat) e1.2.1.symm))
  · exact congrArg (256 + ·) e5

/-! ## The three gathers of a slot -/

/-- What the three gathers of slot `p` hand back together. -/
def GatDone (n p : ℕ) : sProp 𝕄 :=
  iprop(ColHas d sc su tok tab n p 0 128 ∗ ColHas d sc su tok tab n p 128 256 ∗ TailHas d sc su tok tab n p ∗ IdxAny (F := F) d sc su p)

/-- The three gathers of slot `p` in flight, `u` of their credit waited for. -/
def GatFly (n p : ℕ) (sem : DmaSem sig) (u : ℕ) : sProp 𝕄 :=
  iprop(∃ D : Fin 240 → sProp 𝕄, ⌜bigSep Finset.univ D ⊢ GatDone d sc su tok tab n p⌝
    ∗ Transfers.Batch countersEmb (V d sc su) (.dma sem) ι₀ 4096 D 240 u)

variable {p : ℕ}

/-- The row numbers in slot `p` of the token scratch are rows of the table. -/
abbrev InRange (hp : p < 3) (fo : S3x80.Idx → Elt F .i32) : Prop :=
  ∀ x, ((idxM p (inbI hp)).view.read (Elt F) fo x).toNat < S100000x128.size gathers_S100000x128_S80x128.axis

/-- Row `j` of the gather of the table's first 128 columns. -/
abbrev gotA (hp : p < 3) (q qo : PosShare TreeShare) (f : S3x80x300.Idx → Elt F .f32) (fo : S3x80.Idx → Elt F .i32) (hin : InRange (F := F) hp fo) (j : Fin 80) : sProp 𝕄 :=
  rowGot (V d sc su) (tabM 0 inb_S100000x300_S100000x128_0_0) (colM p 0 (inbR hp) inb_S80x300_S80x128_0_0) gathers_S100000x128_S80x128 (idxM p (inbI hp)) rfl
    (by decide) q qo tab f fo hin j
/-- Row `j` of the gather of the table's next 128 columns. -/
abbrev gotB (hp : p < 3) (q qo : PosShare TreeShare) (f : S3x80x300.Idx → Elt F .f32) (fo : S3x80.Idx → Elt F .i32) (hin : InRange (F := F) hp fo) (j : Fin 80) : sProp 𝕄 :=
  rowGot (V d sc su) (tabM 128 inb_S100000x300_S100000x128_0_128) (colM p 128 (inbR hp) inb_S80x300_S80x128_0_128) gathers_S100000x128_S80x128 (idxM p (inbI hp)) rfl
    (by decide) q qo tab f fo hin j
/-- Row `j` of the gather of the tail table. -/
abbrev gotC (hp : p < 3) (q qo : PosShare TreeShare) (f : S3x80x128.Idx → Elt F .f32) (fo : S3x80.Idx → Elt F .i32) (hin : InRange (F := F) hp fo) (j : Fin 80) : sProp 𝕄 :=
  rowGot (V d sc su) tlM (tailM p (inbT hp)) gathers_S100000x128_S80x128 (idxM p (inbI hp)) rfl
    (by decide) q qo tl f fo hin j

/-- All 240 rows. -/
def got (hp : p < 3) (q1 q2 q3 : PosShare TreeShare) (f g : S3x80x300.Idx → Elt F .f32) (f8 : S3x80x128.Idx → Elt F .f32)
    (fo : S3x80.Idx → Elt F .i32) (hin : InRange (F := F) hp fo) (t : Fin 240) : sProp 𝕄 :=
  if h : t.val < 80 then gotA d sc su tab hp q1 fullShare.left f fo hin ⟨t.val, h⟩
  else if h' : t.val < 160 then gotB d sc su tab hp q2 fullShare.right.left g fo hin ⟨t.val - 80, by omega⟩
  else gotC d sc su tl hp q3 fullShare.right.right f8 fo hin ⟨t.val - 160, by omega⟩

instance got_storable (hp : p < 3) (q1 q2 q3 : PosShare TreeShare) (f g : S3x80x300.Idx → Elt F .f32) (f8 : S3x80x128.Idx → Elt F .f32)
    (fo : S3x80.Idx → Elt F .i32) (hin : InRange (F := F) hp fo) (t : Fin 240) :
    Storable (upEmb : UEmb _ 𝕄) (got d sc su tab tl hp q1 q2 q3 f g f8 fo hin t) := by
  unfold got; split
  · exact rowGot_storable (V d sc su) ..
  · split
    · exact rowGot_storable (V d sc su) ..
    · exact rowGot_storable (V d sc su) ..

theorem got_A (hp : p < 3) (q1 q2 q3 : PosShare TreeShare) (f g : S3x80x300.Idx → Elt F .f32) (f8 : S3x80x128.Idx → Elt F .f32)
    (fo : S3x80.Idx → Elt F .i32) (hin : InRange (F := F) hp fo) (j : Fin 80) :
    got d sc su tab tl hp q1 q2 q3 f g f8 fo hin ⟨j.val, by omega⟩ = gotA d sc su tab hp q1 fullShare.left f fo hin j := by
  unfold got; rw [dif_pos j.isLt]
theorem got_B (hp : p < 3) (q1 q2 q3 : PosShare TreeShare) (f g : S3x80x300.Idx → Elt F .f32) (f8 : S3x80x128.Idx → Elt F .f32)
    (fo : S3x80.Idx → Elt F .i32) (hin : InRange (F := F) hp fo) (j : Fin 80) :
    got d sc su tab tl hp q1 q2 q3 f g f8 fo hin ⟨80 + j.val, by omega⟩ = gotB d sc su tab hp q2 fullShare.right.left g fo hin j := by
  have h1 : ¬ (80 + j.val < 80) := by omega
  have h2 : 80 + j.val < 160 := by have := j.isLt; omega
  have e : (⟨80 + j.val - 80, by have := j.isLt; omega⟩ : Fin 80) = j := Fin.ext (by simp)
  unfold got
  rw [dif_neg h1, dif_pos h2]
  exact congrArg _ e
theorem got_C (hp : p < 3) (q1 q2 q3 : PosShare TreeShare) (f g : S3x80x300.Idx → Elt F .f32) (f8 : S3x80x128.Idx → Elt F .f32)
    (fo : S3x80.Idx → Elt F .i32) (hin : InRange (F := F) hp fo) (j : Fin 80) :
    got d sc su tab tl hp q1 q2 q3 f g f8 fo hin ⟨160 + j.val, by omega⟩ = gotC d sc su tl hp q3 fullShare.right.right f8 fo hin j := by
  have h1 : ¬ (160 + j.val < 80) := by omega
  have h2 : ¬ (160 + j.val < 160) := by omega
  have e : (⟨160 + j.val - 160, by have := j.isLt; omega⟩ : Fin 80) = j := Fin.ext (by simp)
  unfold got
  rw [dif_neg h1, dif_neg h2]
  exact congrArg _ e

/-- The gather's rows together. -/
theorem gotA_all (hp : p < 3) (q qo : PosShare TreeShare) (f : S3x80x300.Idx → Elt F .f32)
    (fo : S3x80.Idx → Elt F .i32) (hin : InRange (F := F) hp fo) (n : ℕ) (hfo : ∀ x, (x 0).val = p → fo x = tokAt tok (n + (x 1).val)) :
    (bigSep Finset.univ (gotA d sc su tab hp q qo f fo hin))
      ⊢ iprop(ColHas d sc su tok tab n p 0 128 ∗ idxV.view.loc (V d sc su) ↦[idxSet p]{qo} fo) := by
  have h0 : (bigSep Finset.univ (gotA d sc su tab hp q qo f fo hin)) ⊢ _ :=
    rowGot_all (c := V d sc su) (src := tabM 0 inb_S100000x300_S100000x128_0_0) (dst := colM p 0 (inbR hp) inb_S80x300_S80x128_0_0) (hg := gathers_S100000x128_S80x128) (offs := idxM p (inbI hp))
      (hn := rfl) (hs := by decide) (q := q) (qo := qo) (fs := tab) (fd := f) (fo := fo) (hin := hin)
  refine h0.trans ?_
  iintro ⟨H, -, Hi⟩
  isplitl [H]
  · unfold ColHas
    iexists _; isplitr
    swap
    · iapply (Entails.of_eq (congrArg (fun S : Finset S3x80x300.Idx => (rowV.view.loc (V d sc su) ↦[S]{fullShare} _ : sProp 𝕄)) (colM_set p 0 (inbR hp) inb_S80x300_S80x128_0_0))) $$ H
    ipureintro
    exact col_value (F := F) tok tab p n 0 _ _ _ _ f fo hfo hin
  iapply (Entails.of_eq (congrArg (fun S : Finset S3x80.Idx => (idxV.view.loc (V d sc su) ↦[S]{qo} fo : sProp 𝕄)) (idxM_set p (inbI hp)))) $$ Hi

/-- The gather's rows together. -/
theorem gotB_all (hp : p < 3) (q qo : PosShare TreeShare) (f : S3x80x300.Idx → Elt F .f32)
    (fo : S3x80.Idx → Elt F .i32) (hin : InRange (F := F) hp fo) (n : ℕ) (hfo : ∀ x, (x 0).val = p → fo x = tokAt tok (n + (x 1).val)) :
    (bigSep Finset.univ (gotB d sc su tab hp q qo f fo hin))
      ⊢ iprop(ColHas d sc su tok tab n p 128 256 ∗ idxV.view.loc (V d sc su) ↦[idxSet p]{qo} fo) := by
  have h0 : (bigSep Finset.univ (gotB d sc su tab hp q qo f fo hin)) ⊢ _ :=
    rowGot_all (c := V d sc su) (src := tabM 128 inb_S100000x300_S100000x128_0_128) (dst := colM p 128 (inbR hp) inb_S80x300_S80x128_0_128) (hg := gathers_S100000x128_S80x128) (offs := idxM p (inbI hp))
      (hn := rfl) (hs := by decide) (q := q) (qo := qo) (fs := tab) (fd := f) (fo := fo) (hin := hin)
  refine h0.trans ?_
  iintro ⟨H, -, Hi⟩
  isplitl [H]
  · unfold ColHas
    iexists _; isplitr
    swap
    · iapply (Entails.of_eq (congrArg (fun S : Finset S3x80x300.Idx => (rowV.view.loc (V d sc su) ↦[S]{fullShare} _ : sProp 𝕄)) (colM_set p 128 (inbR hp) inb_S80x300_S80x128_0_128))) $$ H
    ipureintro
    exact col_value (F := F) tok tab p n 128 _ _ _ _ f fo hfo hin
  iapply (Entails.of_eq (congrArg (fun S : Finset S3x80.Idx => (idxV.view.loc (V d sc su) ↦[S]{qo} fo : sProp 𝕄)) (idxM_set p (inbI hp)))) $$ Hi

/-- The gather's rows together. -/
theorem gotC_all (htl : ∀ x : S100000x128.Idx, (x 1).val < 44 → tl x = tabAt tab (x 0).val (256 + (x 1).val)) (hp : p < 3) (q qo : PosShare TreeShare) (f : S3x80x128.Idx → Elt F .f32)
    (fo : S3x80.Idx → Elt F .i32) (hin : InRange (F := F) hp fo) (n : ℕ) (hfo : ∀ x, (x 0).val = p → fo x = tokAt tok (n + (x 1).val)) :
    (bigSep Finset.univ (gotC d sc su tl hp q qo f fo hin))
      ⊢ iprop(TailHas d sc su tok tab n p ∗ idxV.view.loc (V d sc su) ↦[idxSet p]{qo} fo) := by
  have h0 : (bigSep Finset.univ (gotC d sc su tl hp q qo f fo hin)) ⊢ _ :=
    rowGot_all (c := V d sc su) (src := tlM) (dst := tailM p (inbT hp)) (hg := gathers_S100000x128_S80x128) (offs := idxM p (inbI hp))
      (hn := rfl) (hs := by decide) (q := q) (qo := qo) (fs := tl) (fd := f) (fo := fo) (hin := hin)
  refine h0.trans ?_
  iintro ⟨H, -, Hi⟩
  isplitl [H]
  · unfold TailHas
    iexists _; isplitr
    swap
    · iapply (Entails.of_eq (congrArg (fun S : Finset S3x80x128.Idx => (tailV.view.loc (V d sc su) ↦[S]{fullShare} _ : sProp 𝕄)) (tailM_set p (inbT hp)))) $$ H
    ipureintro
    exact tail_value (F := F) tok tab tl htl p n _ _ f fo hfo hin
  iapply (Entails.of_eq (congrArg (fun S : Finset S3x80.Idx => (idxV.view.loc (V d sc su) ↦[S]{qo} fo : sProp 𝕄)) (idxM_set p (inbI hp)))) $$ Hi

/-- The 240 rows together. -/
theorem got_all (htl : ∀ x : S100000x128.Idx, (x 1).val < 44 → tl x = tabAt tab (x 0).val (256 + (x 1).val))
    (hp : p < 3) (q1 q2 q3 : PosShare TreeShare) (f g : S3x80x300.Idx → Elt F .f32) (f8 : S3x80x128.Idx → Elt F .f32)
    (fo : S3x80.Idx → Elt F .i32) (hin : InRange (F := F) hp fo) (n : ℕ) (hfo : ∀ x, (x 0).val = p → fo x = tokAt tok (n + (x 1).val)) :
    (bigSep Finset.univ (got d sc su tab tl hp q1 q2 q3 f g f8 fo hin)) ⊢ GatDone d sc su tok tab n p := by
  have e0 : (Finset.univ : Finset (Fin 240)) = Transfers.pending (n := 240) 0 := by
    ext x; simp [Transfers.pending]
  have e3 : Transfers.pending (n := 240) 240 = ∅ := by
    ext x; simp only [Transfers.pending, Finset.mem_filter, Finset.mem_univ, true_and, Finset.notMem_empty, iff_false]
    have := x.isLt; omega
  rw [e0, pending_cut (o := 80) (k := 0) (fun j : Fin 80 => (⟨j.val, by omega⟩ : Fin 240)) (fun j => by simp),
    pending_cut (o := 80) (k := 0 + 80) (fun j : Fin 80 => (⟨80 + j.val, by omega⟩ : Fin 240)) (fun j => by simp),
    pending_cut (o := 80) (k := 0 + 80 + 80) (fun j : Fin 80 => (⟨160 + j.val, by omega⟩ : Fin 240)) (fun j => by simp)]
  rw [bigSep_congr (fun j _ => got_A d sc su tab tl hp q1 q2 q3 f g f8 fo hin j),
    bigSep_congr (fun j _ => got_B d sc su tab tl hp q1 q2 q3 f g f8 fo hin j),
    bigSep_congr (fun j _ => got_C d sc su tab tl hp q1 q2 q3 f g f8 fo hin j)]
  iintro ⟨HA, HB, HC, -⟩
  ihave HA := (gotA_all d sc su tok tab hp q1 fullShare.left f fo hin n hfo) $$ HA
  icases HA with ⟨HA, Hi1⟩
  ihave HB := (gotB_all d sc su tok tab hp q2 fullShare.right.left g fo hin n hfo) $$ HB
  icases HB with ⟨HB, Hi2⟩
  ihave HC := (gotC_all d sc su tok tab tl htl hp q3 fullShare.right.right f8 fo hin n hfo) $$ HC
  icases HC with ⟨HC, Hi3⟩
  ihave Hi := (pointsTo_share (PosShare.mem_left_op_right fullShare.right)).2 $$ [Hi2 Hi3]
  · isplitl [Hi2]; · iexact Hi2
    iexact Hi3
  ihave Hi := (pointsTo_share (PosShare.mem_left_op_right fullShare)).2 $$ [Hi1 Hi]
  · isplitl [Hi1]; · iexact Hi1
    iexact Hi
  unfold GatDone
  isplitl [HA]; · iexact HA
  isplitl [HB]; · iexact HB
  isplitl [HC]; · iexact HC
  unfold IdxAny
  iexists fo
  iexact Hi

/-! ## The three issues -/

/-- After the first gather of slot `p` was issued: what the other two take, and the batch with 80 of its 240 rows issued. -/
def Gat1 (n : ℕ) (hp : p < 3) (sem : DmaSem sig) : sProp 𝕄 :=
  iprop(∃ (q1 q2 q3 : PosShare TreeShare) (f g : S3x80x300.Idx → Elt F .f32) (f8 : S3x80x128.Idx → Elt F .f32) (fo : S3x80.Idx → Elt F .i32)
      (hin : InRange (F := F) hp fo), ⌜∀ x, (x 0).val = p → fo x = tokAt tok (n + (x 1).val)⌝
    ∗ Transfers.Batch countersEmb (V d sc su) (.dma sem) ι₀ 4096 (got d sc su tab tl hp q1 q2 q3 f g f8 fo hin) 80 0
    ∗ (tabV.view.loc (V d sc su) ↦{q2} tab) ∗ (tlV.view.loc (V d sc su) ↦{q3} tl)
    ∗ (rowV.view.loc (V d sc su) ↦[colSet p 128 256]{fullShare} g) ∗ (tailV.view.loc (V d sc su) ↦[tailSet p]{fullShare} f8)
    ∗ (idxV.view.loc (V d sc su) ↦[idxSet p]{fullShare.right.left} fo) ∗ (idxV.view.loc (V d sc su) ↦[idxSet p]{fullShare.right.right} fo))

/-- After the second. -/
def Gat2 (n : ℕ) (hp : p < 3) (sem : DmaSem sig) : sProp 𝕄 :=
  iprop(∃ (q1 q2 q3 : PosShare TreeShare) (f g : S3x80x300.Idx → Elt F .f32) (f8 : S3x80x128.Idx → Elt F .f32) (fo : S3x80.Idx → Elt F .i32)
      (hin : InRange (F := F) hp fo), ⌜∀ x, (x 0).val = p → fo x = tokAt tok (n + (x 1).val)⌝
    ∗ Transfers.Batch countersEmb (V d sc su) (.dma sem) ι₀ 4096 (got d sc su tab tl hp q1 q2 q3 f g f8 fo hin) 160 0
    ∗ (tlV.view.loc (V d sc su) ↦{q3} tl) ∗ (tailV.view.loc (V d sc su) ↦[tailSet p]{fullShare} f8)
    ∗ (idxV.view.loc (V d sc su) ↦[idxSet p]{fullShare.right.right} fo))

variable {α : Type} {Q : α → sProp (MT nD τ sig (HIx 1) (Elt F) ℕ UU ℕ)}

/-- The first gather. -/
theorem wp_gatherA (htok : ∀ n, (tokAt tok n).toNat < 100000) (n : ℕ) (hp : p < 3) {h h' h'' hi} {sem : DmaSem sig} {hk hn hsrc he hsp hr}
    {K : PUnit → Prog (TpuEff nD τ sig (Elt F) Λ₀ (.scVector sc su)) α} :
    iprop(TabSh d sc su tab ∗ TlSh d sc su tl ∗ IdxHas d sc su tok n p ∗ ColAny (F := F) d sc su p 0 128 ∗ ColAny (F := F) d sc su p 128 256
        ∗ TailAny (F := F) d sc su p ∗ semVal (V d sc su, .dma sem) 0)
      ⊢ iprop((iprop(TabSh d sc su tab ∗ TlSh d sc su tl ∗ Gat1 d sc su tok tab tl n hp sem) -∗ wp frame (wpE (defs₀ (F := F)) 𝒱₀ (V d sc su) none) Set.univ (K ⟨⟩) Q)
        -∗ wp frame (wpE (defs₀ (F := F)) 𝒱₀ (V d sc su) none) Set.univ
          (SparseCore.enqueueIndirectGather hk (tabM 0 h'') (colM p 0 h h') gathers_S100000x128_S80x128 (idxM p hi) hn sem hsrc he hsp hr >>= K) Q) := by
  unfold TabSh TlSh IdxHas ColAny TailAny
  iintro ⟨⟨%q, Ht⟩, ⟨%q', Hl⟩, ⟨%fo, %hfo, Hi⟩, ⟨%f, Hc⟩, ⟨%g, Hc'⟩, ⟨%f8, H8⟩, Hs⟩ Hk
  have hin : InRange (F := F) hp fo := idx_in (F := F) tok htok p n (inbI hp) fo hfo
  ihave Ht := (pointsTo_share (PosShare.mem_left_op_right q)).1 $$ Ht
  icases Ht with ⟨Ht, Ht'⟩
  ihave Ht' := (pointsTo_share (PosShare.mem_left_op_right q.right)).1 $$ Ht'
  icases Ht' with ⟨Ht1, Ht2⟩
  ihave Hl := (pointsTo_share (PosShare.mem_left_op_right q')).1 $$ Hl
  icases Hl with ⟨Hl, Hl'⟩
  ihave Hi := (pointsTo_share (PosShare.mem_left_op_right fullShare)).1 $$ Hi
  icases Hi with ⟨Hi, Hi'⟩
  ihave Hi' := (pointsTo_share (PosShare.mem_left_op_right fullShare.right)).1 $$ Hi'
  icases Hi' with ⟨Hi1, Hi2⟩
  ihave Ht := (pointsTo_split_subset (S := Finset.univ) (Finset.subset_univ (tabM 0 inb_S100000x300_S100000x128_0_0).view.set)).1 $$ Ht
  icases Ht with ⟨Ht, -⟩
  imod (Transfers.batch_alloc' countersEmb (V d sc su) ι₀ 4096 (got d sc su tab tl hp q.left q.right.left q'.left f g f8 fo hin)) $$ Hs with HB
  ihave Hc := (Entails.of_eq (congrArg (fun S : Finset S3x80x300.Idx => (rowV.view.loc (V d sc su) ↦[S]{fullShare} f : sProp 𝕄)) (colM_set p 0 (inbR hp) inb_S80x300_S80x128_0_0).symm)) $$ Hc
  ihave Hi := (Entails.of_eq (congrArg (fun S : Finset S3x80.Idx => (idxV.view.loc (V d sc su) ↦[S]{fullShare.left} fo : sProp 𝕄)) (idxM_set p (inbI hp)).symm)) $$ Hi
  iapply (wp_gatherInto countersEmb 𝒱₀ (V d sc su) none (src := tabM 0 inb_S100000x300_S100000x128_0_0) (dst := colM p 0 (inbR hp) inb_S80x300_S80x128_0_0)
    (hg := gathers_S100000x128_S80x128) (offs := idxM p (inbI hp)) (k := 0) (n := 240)
    (D := got d sc su tab tl hp q.left q.right.left q'.left f g f8 fo hin)
    ι₀ 4096 (fun j => colM_row_credit p 0 _ _ j) (by decide) hin (fun j : Fin 80 => (⟨j.val, by omega⟩ : Fin 240)) (fun j => (Nat.zero_add _).symm)
    (fun j => Entails.of_eq (got_A d sc su tab tl hp q.left q.right.left q'.left f g f8 fo hin j).symm)) $$ [Ht Hc Hi HB]
  · isplitl [Ht]; · iexact Ht
    isplitl [Hc]; · iexact Hc
    isplitl [Hi]; · iexact Hi
    iexact HB
  iintro HB
  iapply Hk
  isplitl [Ht2]; · iexists _; iexact Ht2
  isplitl [Hl']; · iexists _; iexact Hl'
  unfold Gat1
  iexists q.left, q.right.left, q'.left, f, g, f8, fo, hin
  isplitr; · ipureintro; exact hfo
  isplitl [HB]; · iexact HB
  isplitl [Ht1]; · iexact Ht1
  isplitl [Hl]; · iexact Hl
  isplitl [Hc']; · iexact Hc'
  isplitl [H8]; · iexact H8
  isplitl [Hi1]; · iexact Hi1
  iexact Hi2

/-- The second gather. -/
theorem wp_gatherB (n : ℕ) (hp : p < 3) {h h' h'' hi} {sem : DmaSem sig} {hk hn hsrc he hsp hr}
    {K : PUnit → Prog (TpuEff nD τ sig (Elt F) Λ₀ (.scVector sc su)) α} :
    Gat1 d sc su tok tab tl n hp sem
      ⊢ iprop((Gat2 d sc su tok tab tl n hp sem -∗ wp frame (wpE (defs₀ (F := F)) 𝒱₀ (V d sc su) none) Set.univ (K ⟨⟩) Q)
        -∗ wp frame (wpE (defs₀ (F := F)) 𝒱₀ (V d sc su) none) Set.univ
          (SparseCore.enqueueIndirectGather hk (tabM 128 h'') (colM p 128 h h') gathers_S100000x128_S80x128 (idxM p hi) hn sem hsrc he hsp hr >>= K) Q) := by
  unfold Gat1
  iintro ⟨%q1, %q2, %q3, %f, %g, %f8, %fo, %hin, %hfo, HB, Ht, Hl, Hc, H8, Hi, Hi2⟩ Hk
  ihave Ht := (pointsTo_split_subset (S := Finset.univ) (Finset.subset_univ (tabM 128 inb_S100000x300_S100000x128_0_128).view.set)).1 $$ Ht
  icases Ht with ⟨Ht, -⟩
  ihave Hc := (Entails.of_eq (congrArg (fun S : Finset S3x80x300.Idx => (rowV.view.loc (V d sc su) ↦[S]{fullShare} g : sProp 𝕄)) (colM_set p 128 (inbR hp) inb_S80x300_S80x128_0_128).symm)) $$ Hc
  ihave Hi := (Entails.of_eq (congrArg (fun S : Finset S3x80.Idx => (idxV.view.loc (V d sc su) ↦[S]{fullShare.right.left} fo : sProp 𝕄)) (idxM_set p (inbI hp)).symm)) $$ Hi
  iapply (wp_gatherInto countersEmb 𝒱₀ (V d sc su) none (src := tabM 128 inb_S100000x300_S100000x128_0_128) (dst := colM p 128 (inbR hp) inb_S80x300_S80x128_0_128)
    (hg := gathers_S100000x128_S80x128) (offs := idxM p (inbI hp)) (k := 80) (n := 240)
    (D := got d sc su tab tl hp q1 q2 q3 f g f8 fo hin)
    ι₀ 4096 (fun j => colM_row_credit p 128 _ _ j) (by decide) hin (fun j : Fin 80 => (⟨80 + j.val, by omega⟩ : Fin 240)) (fun j => rfl)
    (fun j => Entails.of_eq (got_B d sc su tab tl hp q1 q2 q3 f g f8 fo hin j).symm)) $$ [Ht Hc Hi HB]
  · isplitl [Ht]; · iexact Ht
    isplitl [Hc]; · iexact Hc
    isplitl [Hi]; · iexact Hi
    iexact HB
  iintro HB
  iapply Hk
  unfold Gat2
  iexists q1, q2, q3, f, g, f8, fo, hin
  isplitr; · ipureintro; exact hfo
  isplitl [HB]; · iexact HB
  isplitl [Hl]; · iexact Hl
  isplitl [H8]; · iexact H8
  iexact Hi2

/-- The third gather: the slot is now wholly in flight. -/
theorem wp_gatherC (htl : ∀ x : S100000x128.Idx, (x 1).val < 44 → tl x = tabAt tab (x 0).val (256 + (x 1).val))
    (n : ℕ) (hp : p < 3) {h hi} {sem : DmaSem sig} {hk hn hsrc he hsp hr}
    {K : PUnit → Prog (TpuEff nD τ sig (Elt F) Λ₀ (.scVector sc su)) α} :
    Gat2 d sc su tok tab tl n hp sem
      ⊢ iprop((GatFly d sc su tok tab n p sem 0 -∗ wp frame (wpE (defs₀ (F := F)) 𝒱₀ (V d sc su) none) Set.univ (K ⟨⟩) Q)
        -∗ wp frame (wpE (defs₀ (F := F)) 𝒱₀ (V d sc su) none) Set.univ
          (SparseCore.enqueueIndirectGather hk tlM (tailM p h) gathers_S100000x128_S80x128 (idxM p hi) hn sem hsrc he hsp hr >>= K) Q) := by
  unfold Gat2
  iintro ⟨%q1, %q2, %q3, %f, %g, %f8, %fo, %hin, %hfo, HB, Hl, H8, Hi⟩ Hk
  ihave Hl := (pointsTo_split_subset (S := Finset.univ) (Finset.subset_univ (tlM).view.set)).1 $$ Hl
  icases Hl with ⟨Hl, -⟩
  ihave H8 := (Entails.of_eq (congrArg (fun S : Finset S3x80x128.Idx => (tailV.view.loc (V d sc su) ↦[S]{fullShare} f8 : sProp 𝕄)) (tailM_set p (inbT hp)).symm)) $$ H8
  ihave Hi := (Entails.of_eq (congrArg (fun S : Finset S3x80.Idx => (idxV.view.loc (V d sc su) ↦[S]{fullShare.right.right} fo : sProp 𝕄)) (idxM_set p (inbI hp)).symm)) $$ Hi
  iapply (wp_gatherInto countersEmb 𝒱₀ (V d sc su) none (src := tlM) (dst := tailM p (inbT hp))
    (hg := gathers_S100000x128_S80x128) (offs := idxM p (inbI hp)) (k := 160) (n := 240)
    (D := got d sc su tab tl hp q1 q2 q3 f g f8 fo hin)
    ι₀ 4096 (fun j => tailM_row_credit p _ j) (by decide) hin (fun j : Fin 80 => (⟨160 + j.val, by omega⟩ : Fin 240)) (fun j => rfl)
    (fun j => Entails.of_eq (got_C d sc su tab tl hp q1 q2 q3 f g f8 fo hin j).symm)) $$ [Hl H8 Hi HB]
  · isplitl [Hl]; · iexact Hl
    isplitl [H8]; · iexact H8
    isplitl [Hi]; · iexact Hi
    iexact HB
  iintro HB
  iapply Hk
  unfold GatFly
  iexists got d sc su tab tl hp q1 q2 q3 f g f8 fo hin
  isplitr
  · ipureintro; exact got_all d sc su tok tab tl htl hp q1 q2 q3 f g f8 fo hin n hfo
  iexact HB

/-! ## The three waits -/

variable (O : CellTallies nD τ sig (HIx 1)) (W : Waits sig (HIx 1))

/-- A gather's wait is the wait of a transfer into its destination. -/
theorem gatherWait_op {h} {sem : DmaSem sig} {hsrc hdst} {K : PUnit → Prog (TpuEff nD τ sig (Elt F) Λ₀ (.scVector sc su)) α} :
    ((SparseCore.waitIndirectGather sem tlM (tailM p h) hsrc hdst : Prog (TpuEff nD τ sig (Elt F) Λ₀ (.scVector sc su)) PUnit) >>= K) = .op (.waitDma2 sem tlM (tailM p h) hsrc hdst) K := rfl

/-- A wait for eighty of the rows in flight, not the last one. -/
theorem wp_gatherWait (n u : ℕ) (hu : u + 80 * 4096 ≤ 240 * 4096) {h} {sem : DmaSem sig} {hsrc hdst}
    {K : PUnit → Prog (TpuEff nD τ sig (Elt F) Λ₀ (.scVector sc su)) α} :
    iprop(GatFly d sc su tok tab n p sem u ∗ Owe d sc su O W ∗ Transfers.MayWaits (V d sc su) ι₀ O)
      ⊢ iprop((iprop(GatFly d sc su tok tab n p sem (u + 80 * 4096) ∗ Owe d sc su O W) -∗ wp frame (wpE (defs₀ (F := F)) 𝒱₀ (V d sc su) none) Set.univ (K ⟨⟩) Q)
        -∗ wp frame (wpE (defs₀ (F := F)) 𝒱₀ (V d sc su) none) Set.univ
          (SparseCore.waitIndirectGather sem tlM (tailM p h) hsrc hdst >>= K) Q) := by
  unfold Owe GatFly
  iintro ⟨⟨%D, %hD, HB⟩, ⟨%W', %hW, HO⟩, Hmw⟩ Hk
  rw [gatherWait_op]
  iapply (Transfers.wp_waitBatchMulO countersEmb 𝒱₀ (V d sc su) none ι₀ (dstw := tailM p h) (N := 4096) (D := D) (j := 240) (u := u) 80 (tailM_credit p h) (by omega)) $$ [HB HO Hmw]
  · isplitl [HB]; · iexact HB
    isplitl [HO]; · iexact HO
    iapply (Transfers.MayWaits.elim (SemLoc.dma sem)) $$ Hmw
  iintro ⟨HB, HO⟩
  iapply Hk
  isplitl [HB]
  · iexists D; isplitr; · ipureintro; exact hD
    iexact HB
  ihave HO := (owe_insert d sc su O W hW) $$ HO
  unfold Owe
  iexact HO

/-- The last wait: the slot is back. -/
theorem wp_gatherWaitAll (n u : ℕ) (hu : u + 80 * 4096 = 240 * 4096) {h} {sem : DmaSem sig} {hsrc hdst}
    {K : PUnit → Prog (TpuEff nD τ sig (Elt F) Λ₀ (.scVector sc su)) α} :
    iprop(GatFly d sc su tok tab n p sem u ∗ Owe d sc su O W ∗ Transfers.MayWaits (V d sc su) ι₀ O)
      ⊢ iprop((iprop(GatDone d sc su tok tab n p ∗ semVal (V d sc su, .dma sem) 0 ∗ Owe d sc su O W) -∗ wp frame (wpE (defs₀ (F := F)) 𝒱₀ (V d sc su) none) Set.univ (K ⟨⟩) Q)
        -∗ wp frame (wpE (defs₀ (F := F)) 𝒱₀ (V d sc su) none) Set.univ
          (SparseCore.waitIndirectGather sem tlM (tailM p h) hsrc hdst >>= K) Q) := by
  unfold Owe GatFly
  iintro ⟨⟨%D, %hD, HB⟩, ⟨%W', %hW, HO⟩, Hmw⟩ Hk
  rw [gatherWait_op]
  iapply (Transfers.wp_waitBatchAllO countersEmb 𝒱₀ (V d sc su) none ι₀ (dstw := tailM p h) (N := 4096) (J := 80 * 4096) (D := D) (u := u) (tailM_credit p h) (by norm_num) (by omega)) $$ [HB HO Hmw]
  · isplitl [HB]; · iexact HB
    isplitl [HO]; · iexact HO
    iapply (Transfers.MayWaits.elim (SemLoc.dma sem)) $$ Hmw
  iintro ⟨HD, Hs, HO⟩
  iapply Hk
  isplitl [HD]; · iapply hD $$ HD
  isplitl [Hs]; · iexact Hs
  ihave HO := (owe_insert d sc su O W hW) $$ HO
  unfold Owe
  iexact HO

end Cert.Proof.Gather

end
-- ==== Proof.Fixup.lean ====
/- The last 44 columns of a slot's rows: copied row by row from the tail scratch, two stores of sixteen and one masked
   indexed store of twelve. -/
module

public import proofs.«01_k».proof.Proof.Gather
public import Idealize.ShloMosaic.Lib.Pointwise.Reshape
public import Idealize.ShloMosaic.Lib.Pipeline.Value

@[expose] public section

noncomputable section

namespace Cert.Proof.Fixup

open Cert.KernelIdeal Cert.KernelIdeal.Gen Cert.Proof.Slots Cert.Proof.Issue Cert.Proof.State Cert.Proof.Gather
open Idealize.ShloMosaic
open Idealize.ShloMosaic.ValueIdx
open Idealize.ShloMosaic.SparseCore (S V T rows gatherPayload)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A masked indexed store read at an element -/

/-- A fold of updates, each of which either leaves `z` at `y` or does not touch `y`. -/
theorem foldl_at {κ X Y : Type} {y : X} {z : Y} (hit : κ → Prop) (step : (X → Y) → κ → X → Y) (hh : ∀ g k, hit k → step g k y = z)
    (hn : ∀ g k, ¬ hit k → step g k y = g y) (l : List κ) (g : X → Y) (h : g y = z ∨ ∃ k ∈ l, hit k) : l.foldl step g y = z := by
  induction l generalizing g with
  | nil =>
    rcases h with h | ⟨k, hk, -⟩
    · exact h
    · exact absurd hk List.not_mem_nil
  | cons k l ih =>
    rw [List.foldl_cons]
    apply ih
    by_cases hk : hit k
    · exact .inl (hh g k hk)
    · rcases h with h | ⟨k', hk', h'⟩
      · exact .inl ((hn g k hk).trans h)
      · rcases List.mem_cons.mp hk' with rfl | hk'
        · exact absurd h' hk
        · exact .inr ⟨k', hk', h'⟩

/-- After a masked indexed store an element holds `z` if every set lane naming it stores `z`, and either it held `z`
    before or some set lane names it. -/
theorem storeIdx_at {s : Shape} {e : EltTy} {d : Fin 1 → Nat} [FloatOps F] (f : Vec F s e) (idxs : Fin s.rank → IVec ⟨1, d⟩ 32) (v : Vec F ⟨1, d⟩ e)
    (mask : IVec ⟨1, d⟩ 1) (h : ∀ a x, (idxs a x).toNat < s.size a) (y : s.Idx) (z : Elt F e)
    (hall : ∀ k : Fin (d 0), mask (Shape.ofLane k) = 1 → (∀ a, (y a).val = (idxAt idxs h (Shape.ofLane k) a).val) → v (Shape.ofLane k) = z)
    (hsome : f y = z ∨ ∃ k : Fin (d 0), mask (Shape.ofLane k) = 1 ∧ ∀ a, (y a).val = (idxAt idxs h (Shape.ofLane k) a).val) :
    storeIdx f idxs v mask false h y = z := by
  unfold storeIdx
  refine foldl_at (fun k : Fin (d 0) => mask (Shape.ofLane k) = 1 ∧ ∀ a, (y a).val = (idxAt idxs h (Shape.ofLane k) a).val) _ ?_ ?_ _ f ?_
  · rintro g k ⟨hm, ht⟩
    simp only [hm, if_true]
    rw [if_pos ht]; simpa using hall k hm ht
  · intro g k hk
    by_cases hm : mask (Shape.ofLane k) = 1
    · simp only [hm, if_true]
      rw [if_neg (fun ht => hk ⟨hm, ht⟩)]
    · simp only [hm, if_false]
  · exact hsome.imp id fun ⟨k, hk⟩ => ⟨k, List.mem_finRange k, hk⟩

/-! ## One row of a slot, sixteen columns at a time -/

/-- Sixteen elements of one row of the row scratch. -/
abbrev rowAcc (off : Fin 3 → ℕ) (h : ∀ a, off a + S1x1x16.size a ≤ S3x80x300.size a) : View sig .scVector .vmem S1x1x16 .f32 :=
  rowV.access (Rect.unit (s := S3x80x300) off S1x1x16.size h)
/-- Sixteen elements of one row of the tail scratch. -/
abbrev tailAcc (off : Fin 3 → ℕ) (h : ∀ a, off a + S1x1x16.size a ≤ S3x80x128.size a) : View sig .scVector .vmem S1x1x16 .f32 :=
  tailV.access (Rect.unit (s := S3x80x128) off S1x1x16.size h)

theorem rowAcc_emb (p j o : ℕ) (off) (e : off = ![p, j, o]) (h) (y : S1x1x16.Idx) :
    (((rowAcc off h).emb y : S3x80x300.Idx) 0).val = p ∧ (((rowAcc off h).emb y : S3x80x300.Idx) 1).val = j
      ∧ (((rowAcc off h).emb y : S3x80x300.Idx) 2).val = o + (y 2).val := by
  subst e
  have h0 : (y 0).val < 1 := (y 0).isLt
  have h1 : (y 1).val < 1 := (y 1).isLt
  refine ⟨?_, ?_, ?_⟩
  · show p + 1 * (y 0).val = p; omega
  · show j + 1 * (y 1).val = j; omega
  · show o + 1 * (y 2).val = o + (y 2).val; omega

theorem tailAcc_emb (p j o : ℕ) (off) (e : off = ![p, j, o]) (h) (y : S1x1x16.Idx) :
    (((tailAcc off h).emb y : S3x80x128.Idx) 0).val = p ∧ (((tailAcc off h).emb y : S3x80x128.Idx) 1).val = j
      ∧ (((tailAcc off h).emb y : S3x80x128.Idx) 2).val = o + (y 2).val := by
  subst e
  have h0 : (y 0).val < 1 := (y 0).isLt
  have h1 : (y 1).val < 1 := (y 1).isLt
  refine ⟨?_, ?_, ?_⟩
  · show p + 1 * (y 0).val = p; omega
  · show j + 1 * (y 1).val = j; omega
  · show o + 1 * (y 2).val = o + (y 2).val; omega

theorem rowAcc_sub (p j o : ℕ) (off) (e : off = ![p, j, o]) (h) : ((rowAcc off h).set : Finset S3x80x300.Idx) ⊆ rowSet p := by
  intro x hx
  obtain ⟨y, rfl⟩ := (mem_view_set (rowAcc off h) x).mp hx
  exact Finset.mem_filter.mpr ⟨Finset.mem_univ _, (rowAcc_emb p j o off e h y).1⟩

theorem tailAcc_sub (p j o : ℕ) (off) (e : off = ![p, j, o]) (h) : ((tailAcc off h).set : Finset S3x80x128.Idx) ⊆ tailSet p := by
  intro x hx
  obtain ⟨y, rfl⟩ := (mem_view_set (tailAcc off h) x).mp hx
  exact Finset.mem_filter.mpr ⟨Finset.mem_univ _, (tailAcc_emb p j o off e h y).1⟩

theorem rowAcc_mem (p j o : ℕ) (off) (e : off = ![p, j, o]) (h) (x : S3x80x300.Idx) (h0 : (x 0).val = p) (h1 : (x 1).val = j)
    (h2 : o ≤ (x 2).val) (h3 : (x 2).val < o + 16) : ∃ y : S1x1x16.Idx, (rowAcc off h).emb y = x ∧ (x 2).val = o + (y 2).val := by
  let y : S1x1x16.Idx   := ValueIdx.ix3 (⟨0, Nat.one_pos⟩ : Fin 1) (⟨0, Nat.one_pos⟩ : Fin 1) (⟨(x 2).val - o, by omega⟩ : Fin 16)
  have e' := rowAcc_emb p j o off e h y
  have ey : (y 2).val = (x 2).val - o := rfl
  refine ⟨y, ?_, by omega⟩
  funext a
  match a with
  | ⟨0, _⟩ => exact Fin.ext (e'.1.trans h0.symm)
  | ⟨1, _⟩ => exact Fin.ext (e'.2.1.trans h1.symm)
  | ⟨2, _⟩ => exact Fin.ext (e'.2.2.trans (show o + ((x 2).val - o) = (x 2).val by omega))

/-- The whole of slot `p`, as an indexed store addresses it. -/
abbrev rowW (p : ℕ) (h : ∀ a, (![p, 0, 0] : Fin 3 → ℕ) a + S1x80x300.size a ≤ S3x80x300.size a) : View sig .scVector .vmem S80x300 .f32 :=
  (rowM p h).access (.whole S80x300)

theorem rowW_emb (p : ℕ) (h) (y : S80x300.Idx) : (rowW p h).emb y = (rowM p h).view.emb y :=
  congrArg (rowM p h).view.emb (funext fun a => Fin.ext (show 0 + 1 * (y a).val = (y a).val by omega))

variable [FloatOps F]
variable (d : Dev nD) (sc : Fin τ.nSC) (su : Fin τ.nSub)
variable (tok : S819200.Idx → Elt F .i32) (tab : S100000x300.Idx → Elt F .f32)

/-- Slot `p` of the row scratch while the last 44 columns are being put in place: all rows hold their first 256 columns,
    the first `j` rows all of them, row `j` its first `256 + k`. -/
def RowMid (n p j k : ℕ) : sProp 𝕄 :=
  iprop(∃ f : S3x80x300.Idx → Elt F .f32,
      ⌜∀ x, (x 0).val = p → ((x 2).val < 256 ∨ (x 1).val < j ∨ ((x 1).val = j ∧ (x 2).val < 256 + k)) → f x = resAt tok tab (n + (x 1).val) (x 2).val⌝
    ∗ rowV.view.loc (V d sc su) ↦[rowSet p]{fullShare} f)

variable {α : Type} {Q : α → sProp (MT nD τ sig (HIx 1) (Elt F) ℕ UU ℕ)}

/-- Sixteen elements of a row of the tail scratch are read. -/
theorem wp_tailLoad (n p j o : ℕ) (off : Fin 3 → ℕ) (e : off = ![p, j, o]) {h hl}
    {K : (S1x1x16.Idx → Elt F .f32) → Prog (TpuEff nD τ sig (Elt F) Λ₀ (.scVector sc su)) α} :
    TailHas d sc su tok tab n p
      ⊢ iprop((∀ w : S1x1x16.Idx → Elt F .f32, ⌜∀ y, o + (y 2).val < 44 → w y = resAt tok tab (n + j) (256 + o + (y 2).val)⌝ -∗ TailHas d sc su tok tab n p
          -∗ wp frame (wpE (defs₀ (F := F)) 𝒱₀ (V d sc su) none) Set.univ (K w) Q)
        -∗ wp frame (wpE (defs₀ (F := F)) 𝒱₀ (V d sc su) none) Set.univ
          (.op (.load tailV (Rect.unit (s := S3x80x128) off S1x1x16.size h).toLoadRect hl) K) Q) := by
  unfold TailHas
  iintro ⟨%f, %hf, H⟩ Hk
  iapply (wp_load_rect 𝒱₀ (V d sc su) none Set.univ (m := tailV) (r := Rect.unit (s := S3x80x128) off S1x1x16.size h) (S := tailSet p) (tailAcc_sub p j o off e h)) $$ H
  iintro H
  iapply Hk $$ %((tailAcc off h).read (Elt F) f) [] [H]
  · ipureintro
    intro y hy
    have e' := tailAcc_emb p j o off e h y
    show f ((tailAcc off h).emb y) = _
    refine (hf _ e'.1 (lt_of_eq_of_lt e'.2.2 hy)).trans ?_
    congr 1
    · exact congrArg (n + ·) e'.2.1
    · exact (congrArg (256 + ·) e'.2.2).trans (Nat.add_assoc _ _ _).symm
  · iexists f; isplitr; · ipureintro; exact hf
    iexact H

/-- Sixteen elements of a row of the row scratch are read, and not looked at. -/
theorem wp_rowLoad (n p j k j' o : ℕ) (off : Fin 3 → ℕ) (e : off = ![p, j', o]) {h hl}
    {K : (S1x1x16.Idx → Elt F .f32) → Prog (TpuEff nD τ sig (Elt F) Λ₀ (.scVector sc su)) α} :
    RowMid d sc su tok tab n p j k
      ⊢ iprop((∀ w : S1x1x16.Idx → Elt F .f32, RowMid d sc su tok tab n p j k
          -∗ wp frame (wpE (defs₀ (F := F)) 𝒱₀ (V d sc su) none) Set.univ (K w) Q)
        -∗ wp frame (wpE (defs₀ (F := F)) 𝒱₀ (V d sc su) none) Set.univ
          (.op (.load rowV (Rect.unit (s := S3x80x300) off S1x1x16.size h).toLoadRect hl) K) Q) := by
  unfold RowMid
  iintro ⟨%f, %hf, H⟩ Hk
  iapply (wp_load_rect 𝒱₀ (V d sc su) none Set.univ (m := rowV) (r := Rect.unit (s := S3x80x300) off S1x1x16.size h) (S := rowSet p) (rowAcc_sub p j' o off e h)) $$ H
  iintro H
  iapply Hk $$ %((rowAcc off h).read (Elt F) f) [H]
  iexists f; isplitr; · ipureintro; exact hf
  iexact H

/-- Sixteen more elements of row `j` are put in place. -/
theorem wp_rowStore (n p j k : ℕ) (off : Fin 3 → ℕ) (e : off = ![p, j, 256 + k]) {h hx hm} (w : S1x1x16.Idx → Elt F .f32)
    (hw : ∀ y, w y = resAt tok tab (n + j) (256 + k + (y 2).val))
    {K : PUnit → Prog (TpuEff nD τ sig (Elt F) Λ₀ (.scVector sc su)) α} :
    RowMid d sc su tok tab n p j k
      ⊢ iprop((RowMid d sc su tok tab n p j (k + 16) -∗ wp frame (wpE (defs₀ (F := F)) 𝒱₀ (V d sc su) none) Set.univ (K ⟨⟩) Q)
        -∗ wp frame (wpE (defs₀ (F := F)) 𝒱₀ (V d sc su) none) Set.univ
          (.op (.store rowV (Rect.unit (s := S3x80x300) off S1x1x16.size h) w Finset.univ hx hm) K) Q) := by
  unfold RowMid
  iintro ⟨%f, %hf, H⟩ Hk
  iapply (wp_store 𝒱₀ (V d sc su) none Set.univ (m := rowV) (r := Rect.unit (s := S3x80x300) off S1x1x16.size h) (S := rowSet p) (rowAcc_sub p j (256 + k) off e h)) $$ H
  iintro H
  iapply Hk
  iexists _; isplitr
  swap; · iexact H
  ipureintro
  intro x hx0 hx1
  by_cases hin : (x 1).val = j ∧ 256 + k ≤ (x 2).val ∧ (x 2).val < 256 + k + 16
  · obtain ⟨y, rfl, hy⟩ := rowAcc_mem p j (256 + k) off e h x hx0 hin.1 hin.2.1 hin.2.2
    refine (write_at (rowAcc off h) f w y).trans ?_
    refine (hw y).trans ?_
    congr 1
    · exact congrArg (n + ·) hin.1.symm
    · exact hy.symm
  · refine (View.write_of_not_mem (v := rowAcc off h) f w Finset.univ (i := x) ?_).trans (hf x hx0 (by omega))
    intro hx'
    obtain ⟨y, rfl⟩ := (mem_view_set (rowAcc off h) x).mp hx'
    have e' := rowAcc_emb p j (256 + k) off e h y
    have hy : (y 2).val < 16 := (y 2).isLt
    exact hin ⟨e'.2.1, le_of_le_of_eq (Nat.le_add_right _ _) e'.2.2.symm, lt_of_eq_of_lt e'.2.2 (by omega)⟩

/-- The masked indexed store puts the last twelve elements of row `j` in place: its lanes name columns 288 on of that row,
    those past the row's end masked off. -/
theorem wp_scatter (n p j : ℕ) {hM} (jv cv : IVec S16 32) (v : Vec F S16 .f32) (mask : IVec S16 1)
    {hi : ∀ a x, ((![jv, cv] : Fin 2 → IVec S16 32) a x).toNat < S80x300.size a} {hs}
    (hj : ∀ x, (jv x).toNat = j) (hj' : j < 80) (hc : ∀ x, mask x = 1 → (cv x).toNat = 288 + (x 0).val) (hm : ∀ x, mask x = 1 ↔ (x 0).val < 12)
    (hv : ∀ x, (x 0).val < 12 → v x = resAt tok tab (n + j) (288 + (x 0).val))
    {K : PUnit → Prog (TpuEff nD τ sig (Elt F) Λ₀ (.scVector sc su)) α} :
    RowMid d sc su tok tab n p j 32
      ⊢ iprop((RowMid d sc su tok tab n p (j + 1) 0 -∗ wp frame (wpE (defs₀ (F := F)) 𝒱₀ (V d sc su) none) Set.univ (K ⟨⟩) Q)
        -∗ wp frame (wpE (defs₀ (F := F)) 𝒱₀ (V d sc su) none) Set.univ
          (SparseCore.vectorStoreIdx (rowM p hM) ![jv, cv] v mask false hi hs >>= K) Q) := by
  unfold RowMid
  iintro ⟨%f, %hf, H⟩ Hk
  have hset : (((rowM p hM).access (.whole S80x300)).set : Finset S3x80x300.Idx) = rowSet p := by
    refine (Eq.trans ?_ (rowM_set p hM))
    ext x
    refine (mem_view_set (rowW p hM) x).trans (Iff.trans ?_ (mem_view_set (rowM p hM).view x).symm)
    exact exists_congr fun y => by rw [rowW_emb]
  ihave H := (Entails.of_eq (congrArg (fun S : Finset S3x80x300.Idx => (rowV.view.loc (V d sc su) ↦[S]{fullShare} f : sProp 𝕄)) hset.symm)) $$ H
  iapply (SparseCore.wp_vectorStoreIdx 𝒱₀ (V d sc su) none Set.univ (base := rowM p hM) (f := f)) $$ H
  iintro H
  iapply Hk
  iexists _; isplitr
  swap
  · iapply (Entails.of_eq (congrArg (fun S : Finset S3x80x300.Idx => (rowV.view.loc (V d sc su) ↦[S]{fullShare} _ : sProp 𝕄)) hset)) $$ H
  ipureintro
  intro x hx0 hx1
  obtain ⟨y, rfl⟩ := (mem_view_set (rowM p hM).view x).mp ((rowM_set p hM).symm ▸ (by simpa using hx0))
  have e := rowM_emb p hM y
  have e0 : ((rowM p hM).view.emb y : S3x80x300.Idx) 1 = (y 0).val := e.2.1
  have e1 : ((rowM p hM).view.emb y : S3x80x300.Idx) 2 = (y 1).val := e.2.2
  have hx1' : (y 1).val < 256 ∨ (y 0).val < j + 1 ∨ ((y 0).val = j + 1 ∧ (y 1).val < 256 + 0) := by
    rw [← e0, ← e1]; exact hx1
  have hy1 : (y 1).val < 300 := (y 1).isLt
  refine (congrArg _ (rowW_emb p hM y).symm).trans ((write_at (rowW p hM) f _ y).trans ?_)
  refine (storeIdx_at _ _ _ _ _ y (resAt tok tab (n + (y 0).val) (y 1).val) ?_ ?_).trans ?_
  · intro k hmk ht
    have hk : (k.val : ℕ) < 12 := (hm _).mp hmk
    have h0 : (y 0).val = j := (ht 0).trans (hj _)
    have h1 : (y 1).val = 288 + k.val := (ht 1).trans (hc _ hmk)
    rw [h0, h1]
    exact hv _ hk
  · by_cases hlt : (y 1).val < 256 ∨ (y 0).val < j ∨ ((y 0).val = j ∧ (y 1).val < 288)
    · left
      show f ((rowW p hM).emb y) = _
      rw [rowW_emb]
      refine (hf _ e.1 ?_).trans ?_
      · rw [e0, e1]; exact hlt
      · rw [e0, e1]
    · right
      have h0 : (y 0).val = j := by omega
      have hk : (y 1).val - 288 < 12 := by omega
      let l : Fin 16 := ⟨(y 1).val - 288, by omega⟩
      have hml : mask (Shape.ofLane (d := ![16]) l) = 1 := (hm _).mpr hk
      have hcl : (cv (Shape.ofLane (d := ![16]) l)).toNat = 288 + l.val := hc _ hml
      refine ⟨l, hml, ?_⟩
      intro a
      match a with
      | ⟨0, _⟩ => exact h0.trans (hj _).symm
      | ⟨1, _⟩ => exact Eq.trans (show (y 1).val = 288 + ((y 1).val - 288) by omega) hcl.symm
  · rw [e0, e1]

end Cert.Proof.Fixup

end
-- ==== Proof.Trip.lean ====
/- One row of the copying of a slot's last 44 columns, and the loop over its eighty rows. -/
module

public import proofs.«01_k».proof.Proof.Fixup

@[expose] public section

noncomputable section

namespace Cert.Proof.Trip

open Cert.KernelIdeal Cert.KernelIdeal.Gen Cert.Proof.Slots Cert.Proof.Issue Cert.Proof.State Cert.Proof.Gather Cert.Proof.Fixup
open Idealize.ShloMosaic
open Idealize.ShloMosaic.ValueIdx
open Idealize.ShloMosaic.SparseCore (S V T rows gatherPayload)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The lanes of the indexed store -/

theorem lane_pos : ∀ i : Fin 16, Scalar.cmpi .slt (BitVec.ofNat 32 i.val + 288#32) 300#32 = 1#1 ↔ i.val < 12 := by decide
theorem lane_col : ∀ i : Fin 16, i.val < 12 → (Scalar.minsi (BitVec.ofNat 32 i.val + 288#32) 299#32).toNat = 288 + i.val := by decide
theorem lane_in : ∀ i : Fin 16, (Scalar.minsi (BitVec.ofNat 32 i.val + 288#32) 299#32).toNat < 300 := by decide

theorem pay1_at (x : S16.Idx) : k0_pay1 x = BitVec.ofNat 32 (x 0).val + 288#32 := by
  show iota .scVector S16 32 [0] iota_S16_d0_w32_scVector x + 288#32 = _
  rw [iota_single_apply]

/-- The lanes that are stored: the first twelve. -/
theorem mask_iff (x : S16.Idx) : k0_pay2 x = 1 ↔ (x 0).val < 12 := by
  show Scalar.cmpi .slt (k0_pay1 x) 300#32 = 1#1 ↔ _
  rw [pay1_at]; exact lane_pos (x 0)
/-- Where they are stored: from column 288 on. -/
theorem cols_at (x : S16.Idx) (h : k0_pay2 x = 1) : (minsi k0_pay1 k0_pay3 x).toNat = 288 + (x 0).val := by
  show (Scalar.minsi (k0_pay1 x) 299#32).toNat = _
  rw [pay1_at]; exact lane_col (x 0) ((mask_iff x).mp h)
/-- No lane names a column past the row's end. -/
theorem cols_lt (x : S16.Idx) : (minsi k0_pay1 k0_pay3 x).toNat < 300 := by
  show (Scalar.minsi (k0_pay1 x) 299#32).toNat < _
  rw [pay1_at]; exact lane_in (x 0)

theorem row_at (t : ℕ) (ht : t < 80) (x : S16.Idx) : ((broadcast S16 (Scf.iv 0#32 1#32 t) : IVec S16 32) x).toNat = t := by
  show (Scf.iv 0#32 1#32 t).toNat = t
  unfold Scf.iv
  simp
  omega

theorem idx_lt (t : ℕ) (ht : t < 80) : ∀ a x, ((![broadcast S16 (Scf.iv 0#32 1#32 t), minsi k0_pay1 k0_pay3] : Fin 2 → IVec S16 32) a x).toNat < S80x300.size a := by
  intro a x
  match a with
  | ⟨0, _⟩ => exact lt_of_eq_of_lt (row_at t ht x) ht
  | ⟨1, _⟩ => exact cols_lt x

/-! ## The columns of a slot -/

theorem colSet_disj (p a b c : ℕ) : Disjoint (colSet p a b) (colSet p b c) := by
  rw [Finset.disjoint_left]
  intro x hx hy
  have h1 := (Finset.mem_filter.mp hx).2
  have h2 := (Finset.mem_filter.mp hy).2
  omega
theorem colSet_disj' (p : ℕ) : Disjoint (colSet p 0 128 ∪ colSet p 128 256) (colSet p 256 300) := by
  rw [Finset.disjoint_left]
  intro x hx hy
  have h2 := (Finset.mem_filter.mp hy).2
  rcases Finset.mem_union.mp hx with hx | hx
  · have h1 := (Finset.mem_filter.mp hx).2
    omega
  · have h1 := (Finset.mem_filter.mp hx).2
    omega
theorem colSet_all (p : ℕ) : (colSet p 0 128 ∪ colSet p 128 256) ∪ colSet p 256 300 = rowSet p := by
  ext x
  have hx : (x 2).val < 300 := (x 2).isLt
  simp only [Finset.mem_union, Finset.mem_filter, Finset.mem_univ, true_and]
  omega

variable [FloatOps F]
variable (d : Dev nD) (sc : Fin τ.nSC) (su : Fin τ.nSub)
variable (tok : S819200.Idx → Elt F .i32) (tab : S100000x300.Idx → Elt F .f32)

/-- One row: its last 44 elements are put in place. -/
theorem wp_trip (n p j : ℕ) (hj : j < 80) {oa ob oc od oe : Fin 3 → ℕ} (ea : oa = ![p, j, 0]) (eb : ob = ![p, j, 256]) (ec : oc = ![p, j, 16])
    (ed : od = ![p, j, 272]) (ee : oe = ![p, j, 32]) {ha hb hb' hc hd hd' he hla hlb hlc hld hle hxb hmb hxd hmd hM hs} {P : Prop} {dP : Decidable P} (hP : P)
    {hi : P → ∀ a x, ((![broadcast S16 (Scf.iv 0#32 1#32 j), minsi k0_pay1 k0_pay3] : Fin 2 → IVec S16 32) a x).toNat < S80x300.size a} :
    iprop(RowMid d sc su tok tab n p j 0 ∗ TailHas d sc su tok tab n p)
      ⊢ wp frame (wpE (defs₀ (F := F)) 𝒱₀ (V d sc su) none) Set.univ
        (.op (.load tailV (Rect.unit (s := S3x80x128) oa S1x1x16.size ha).toLoadRect hla) fun w1 : S1x1x16.Idx → Elt F .f32 =>
          .op (.load rowV (Rect.unit (s := S3x80x300) ob S1x1x16.size hb).toLoadRect hlb) fun _ =>
          .op (.store rowV (Rect.unit (s := S3x80x300) ob S1x1x16.size hb') (shapeCast S1x1x16 (k0_pay10 w1) shapeCasts_S16_S1x1x16) Finset.univ hxb hmb) fun _ =>
          .op (.load tailV (Rect.unit (s := S3x80x128) oc S1x1x16.size hc).toLoadRect hlc) fun w2 : S1x1x16.Idx → Elt F .f32 =>
          .op (.load rowV (Rect.unit (s := S3x80x300) od S1x1x16.size hd).toLoadRect hld) fun _ =>
          .op (.store rowV (Rect.unit (s := S3x80x300) od S1x1x16.size hd') (shapeCast S1x1x16 (k0_pay11 w2) shapeCasts_S16_S1x1x16) Finset.univ hxd hmd) fun _ =>
          .op (.load tailV (Rect.unit (s := S3x80x128) oe S1x1x16.size he).toLoadRect hle) fun w3 : S1x1x16.Idx → Elt F .f32 =>
          .op (.assume P dP) fun hw =>
          SparseCore.vectorStoreIdx (rowM p hM) ![broadcast S16 (Scf.iv 0#32 1#32 j), minsi k0_pay1 k0_pay3] (k0_pay12 w3) k0_pay2 false (hi hw.down) hs >>= fun _ =>
          (pure ⟨⟩ : Prog (TpuEff nD τ sig (Elt F) Λ₀ (.scVector sc su)) Unit))
        (fun _ => iprop(RowMid d sc su tok tab n p (j + 1) 0 ∗ TailHas d sc su tok tab n p)) := by
  have hcast : ∀ w : S1x1x16.Idx → Elt F .f32, shapeCast S1x1x16 (shapeCast S16 w shapeCasts_S1x1x16_S16) shapeCasts_S16_S1x1x16 = w := fun w => by
    rw [shapeCast_comp, shapeCast_id]
  iintro ⟨Hr, Ht⟩
  iapply (wp_tailLoad d sc su tok tab n p j 0 oa ea) $$ Ht
  iintro %w1 %h1 Ht
  iapply (wp_rowLoad d sc su tok tab n p j 0 j 256 ob eb) $$ Hr
  iintro %_ Hr
  iapply (wp_rowStore d sc su tok tab n p j 0 ob eb _ ?_) $$ Hr
  · intro y
    have hy : (y 2).val < 16 := (y 2).isLt
    exact (congrFun (hcast w1) y).trans (h1 y (by omega))
  iintro Hr
  iapply (wp_tailLoad d sc su tok tab n p j 16 oc ec) $$ Ht
  iintro %w2 %h2 Ht
  iapply (wp_rowLoad d sc su tok tab n p j 16 j 272 od ed) $$ Hr
  iintro %_ Hr
  iapply (wp_rowStore d sc su tok tab n p j 16 od ed _ ?_) $$ Hr
  · intro y
    have hy : (y 2).val < 16 := (y 2).isLt
    exact (congrFun (hcast w2) y).trans (h2 y (by omega))
  iintro Hr
  iapply (wp_tailLoad d sc su tok tab n p j 32 oe ee) $$ Ht
  iintro %w3 %h3 Ht
  iapply (wp_assume 𝒱₀ (V d sc su) none Set.univ hP)
  iapply (wp_scatter d sc su tok tab n p j _ _ _ _ (row_at j hj) hj cols_at mask_iff ?_) $$ Hr
  · intro x hx
    refine (shapeCast_apply w3 shapeCasts_S1x1x16_S16 x (ValueIdx.ix3 (⟨0, Nat.one_pos⟩ : Fin 1) (⟨0, Nat.one_pos⟩ : Fin 1) (x 0)) ?_).trans ?_
    · rw [Shape.rowMajor_val_three, Shape.rowMajor_val_one]
      show (0 * 1 + 0) * 16 + (x 0).val = (x 0).val
      omega
    · exact h3 _ (show 32 + (x 0).val < 44 by omega)
  iintro Hr
  rw [wp_pure]
  imodintro
  isplitl [Hr]; · iexact Hr
  iexact Ht

variable {α : Type} {Q : α → sProp (MT nD τ sig (HIx 1) (Elt F) ℕ UU ℕ)}

/-- The eighty rows: the slot then holds its rows whole, and the tail scratch is free. -/
theorem wp_fix (n p : ℕ) (l : Scf.Loop 32) (hl : l.trips = 80) (hok : l.OK)
    (body : Fin l.trips → Unit → Prog (TpuEff nD τ sig (Elt F) Λ₀ (.scVector sc su)) Unit)
    (hbody : ∀ t acc, iprop(RowMid d sc su tok tab n p t.val 0 ∗ TailHas d sc su tok tab n p)
      ⊢ wp frame (wpE (defs₀ (F := F)) 𝒱₀ (V d sc su) none) Set.univ (body t acc) (fun _ => iprop(RowMid d sc su tok tab n p (t.val + 1) 0 ∗ TailHas d sc su tok tab n p)))
    {K : Unit → Prog (TpuEff nD τ sig (Elt F) Λ₀ (.scVector sc su)) α} :
    iprop(ColHas d sc su tok tab n p 0 128 ∗ ColHas d sc su tok tab n p 128 256 ∗ ColAny (F := F) d sc su p 256 300 ∗ TailHas d sc su tok tab n p)
      ⊢ iprop((iprop(RowHas d sc su tok tab n p ∗ TailAny (F := F) d sc su p) -∗ wp frame (wpE (defs₀ (F := F)) 𝒱₀ (V d sc su) none) Set.univ (K ⟨⟩) Q)
        -∗ wp frame (wpE (defs₀ (F := F)) 𝒱₀ (V d sc su) none) Set.univ (Scf.Loop.for l hok ⟨⟩ body >>= K) Q) := by
  iintro ⟨Ha, Hb, Hc, Ht⟩ Hk
  ihave Hr : RowMid d sc su tok tab n p 0 0 $$ [Ha Hb Hc]
  · unfold RowMid ColHas ColAny
    icases Ha with ⟨%fa, %hfa, Ha⟩
    icases Hb with ⟨%fb, %hfb, Hb⟩
    icases Hc with ⟨%fc, Hc⟩
    iexists (fun x => if (x 2).val < 256 then resAt tok tab (n + (x 1).val) (x 2).val else fc x)
    isplitr
    · ipureintro
      intro x _ hx
      exact if_pos (by omega)
    ihave Ha := (Entails.of_eq (pointsTo_congr (g := fun x : S3x80x300.Idx => if (x 2).val < 256 then resAt tok tab (n + (x 1).val) (x 2).val else fc x) ?_)) $$ Ha
    · intro x hx
      have := (Finset.mem_filter.mp hx).2
      exact (hfa x hx).trans (if_pos (by omega)).symm
    ihave Hb := (Entails.of_eq (pointsTo_congr (g := fun x : S3x80x300.Idx => if (x 2).val < 256 then resAt tok tab (n + (x 1).val) (x 2).val else fc x) ?_)) $$ Hb
    · intro x hx
      have := (Finset.mem_filter.mp hx).2
      exact (hfb x hx).trans (if_pos (by omega)).symm
    ihave Hc := (Entails.of_eq (pointsTo_congr (g := fun x : S3x80x300.Idx => if (x 2).val < 256 then resAt tok tab (n + (x 1).val) (x 2).val else fc x) ?_)) $$ Hc
    · intro x hx
      have := (Finset.mem_filter.mp hx).2
      exact (if_neg (by omega)).symm
    ihave Hab := (pointsTo_union (ℓ := rowV.view.loc (V d sc su)) (colSet_disj p 0 128 256)).2 $$ [Ha Hb]
    · isplitl [Ha]; · iexact Ha
      iexact Hb
    ihave H := (pointsTo_union (ℓ := rowV.view.loc (V d sc su)) (colSet_disj' p)).2 $$ [Hab Hc]
    · isplitl [Hab]; · iexact Hab
      iexact Hc
    iapply (Entails.of_eq (congrArg (fun S : Finset S3x80x300.Idx => (rowV.view.loc (V d sc su) ↦[S]{fullShare} _ : sProp 𝕄)) (colSet_all p))) $$ H
  iapply (Scf.wp_for_bind frame (wpE (defs₀ (F := F)) 𝒱₀ (V d sc su) none) Set.univ l.lb l.ub l.st hok ⟨⟩ body
    (fun k _ => iprop(RowMid d sc su tok tab n p k 0 ∗ TailHas d sc su tok tab n p)) hbody) $$ [Hr Ht]
  · isplitl [Hr]; · iexact Hr
    iexact Ht
  iintro %acc ⟨Hr, Ht⟩
  iapply Hk
  isplitl [Hr]
  · unfold RowMid RowHas
    icases Hr with ⟨%f, %hf, Hr⟩
    iexists f; isplitr
    · ipureintro
      intro x hx
      have h1 : (x 1).val < 80 := (x 1).isLt
      exact hf x hx (.inr (.inl (lt_of_lt_of_eq h1 hl.symm)))
    iexact Hr
  · unfold TailHas TailAny
    icases Ht with ⟨%f, %hf, Ht⟩
    iexists f; iexact Ht

end Cert.Proof.Trip

end
-- ==== Proof.Step.lean ====
/- One step of the main loop at any of its three slots: the next chunk's rows are asked for, the tokens of the one after,
   this chunk's rows are awaited, completed and sent to the result. -/
module

public import proofs.«01_k».proof.Proof.Trip

@[expose] public section

noncomputable section

namespace Cert.Proof.Step

open Cert.KernelIdeal Cert.KernelIdeal.Gen Cert.Proof.Slots Cert.Proof.Issue Cert.Proof.State Cert.Proof.Gather Cert.Proof.Fixup Cert.Proof.Trip
open Idealize.ShloMosaic
open Idealize.ShloMosaic.ValueIdx
open Idealize.ShloMosaic.SparseCore (S V T rows gatherPayload)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The programs -/

variable [FloatOps F]

section Programs
variable (sc : Fin τ.nSC) (su : Fin τ.nSub)
variable {p q r : ℕ} (hp : p < 3) (hq : q < 3) (hr : r < 3) (si gp gq sp sq : DmaSem sig)
variable {c3 c4 c5 : Prop} [Decidable c3] [Decidable c4] [Decidable c5]
variable (o3 : Fin 1 → ℕ) (h3 : c3 → ∀ a, o3 a + S80.size a ≤ S819200.size a)
variable (o4 : Fin 2 → ℕ) (h4 : c3 → c4 → ∀ a, o4 a + S80x300.size a ≤ S819200x300.size a)
variable (o5 : Fin 1 → ℕ) (h5 : c5 → ∀ a, o5 a + S80.size a ≤ S819200.size a)
variable (o6 : Fin 2 → ℕ) (h6 : ∀ a, o6 a + S80x300.size a ≤ S819200x300.size a)

/-- Slot `q`'s tokens are awaited, and its last copy to the result if there was one; then its first two gathers start. -/
def fetchProg (h : c3) : Prog (TpuEff nD τ sig (Elt F) Λ₀ (.scVector sc su)) PUnit := do
  Prog.lift (.waitDma2 si (tokM o3 (h3 h)) (idxM q (inbI hq)) (View.wordExact_bits rfl) ((View.wordExact_bits rfl).reshape _ _))
  if h' : c4 then do
    Prog.lift (.waitDma2 sq (rowM q (inbR hq)) (outM o4 (h4 h h')) ((View.wordExact_bits rfl).reshape _ _) (View.wordExact_bits rfl))
    pure ⟨⟩
  else do
    pure ⟨⟩
  SparseCore.enqueueIndirectGather rfl (tabM 0 inb_S100000x300_S100000x128_0_0) (colM q 0 (inbR hq) inb_S80x300_S80x128_0_0) gathers_S100000x128_S80x128
    (idxM q (inbI hq)) rfl gq (View.wordExact_bits rfl) rfl (Or.inl rfl)
  SparseCore.enqueueIndirectGather rfl (tabM 128 inb_S100000x300_S100000x128_0_128) (colM q 128 (inbR hq) inb_S80x300_S80x128_0_128) gathers_S100000x128_S80x128
    (idxM q (inbI hq)) rfl gq (View.wordExact_bits rfl) rfl (Or.inl rfl)
  pure ⟨⟩

/-- The next chunk's gathers, the tokens of the one after, and the waits for slot `p`'s three gathers. -/
def waitProg : Prog (TpuEff nD τ sig (Elt F) Λ₀ (.scVector sc su)) (Σ' (_ : IVec S16 32) (_ : IVec S16 1), IVec S16 32) := do
  if h : c3 then do
    fetchProg sc su hq si gq sq o3 h3 o4 h4 h
    SparseCore.enqueueIndirectGather rfl tlM (tailM q (inbT hq)) gathers_S100000x128_S80x128
      (idxM q (inbI hq)) rfl gq (View.wordExact_bits rfl) rfl (Or.inl rfl)
    pure ⟨⟩
  else do
    pure ⟨⟩
  if h : c5 then do
    Prog.lift (.enqueueDma (tokM o5 (h5 h)) (.here (idxM r (inbI hr))) (.dma si) (View.wordExact_bits rfl) ((View.wordExact_bits rfl).reshape _ _) ⟨Or.inl rfl, trivial⟩)
    pure ⟨⟩
  else do
    pure ⟨⟩
  SparseCore.waitIndirectGather gp tlM (tailM p (inbT hp)) (View.wordExact_bits rfl) ((View.wordExact_bits rfl).reshape _ _)
  SparseCore.waitIndirectGather gp tlM (tailM p (inbT hp)) (View.wordExact_bits rfl) ((View.wordExact_bits rfl).reshape _ _)
  SparseCore.waitIndirectGather gp tlM (tailM p (inbT hp)) (View.wordExact_bits rfl) ((View.wordExact_bits rfl).reshape _ _)
  pure ⟨k0_pay1, k0_pay2, k0_pay3⟩

/-- The step. -/
def stepProg (l : Scf.Loop 32) (hok : l.OK)
    (body : IVec S16 1 → IVec S16 32 → Fin l.trips → Unit → Prog (TpuEff nD τ sig (Elt F) Λ₀ (.scVector sc su)) Unit) :
    Prog (TpuEff nD τ sig (Elt F) Λ₀ (.scVector sc su)) Unit := do
  let ⟨v93, v95, v96⟩ : Σ' (_ : IVec S16 32) (_ : IVec S16 1), IVec S16 32 ← waitProg sc su hp hq hr si gp gq sq o3 h3 o4 h4 o5 h5
  Scf.Loop.for l hok ⟨⟩ (body v95 (minsi v93 v96))
  Prog.lift (.enqueueDma (rowM p (inbR hp)) (.here (outM o6 h6)) (.dma sp) ((View.wordExact_bits rfl).reshape _ _) (View.wordExact_bits rfl) ⟨Or.inl rfl, trivial⟩)
  pure ⟨⟩

end Programs

/-! ## The result's rows and a slot's columns -/

variable (d : Dev nD) (sc : Fin τ.nSC) (su : Fin τ.nSub)
variable (tok : S819200.Idx → Elt F .i32) (tab : S100000x300.Idx → Elt F .f32) (tl : S100000x128.Idx → Elt F .f32)

theorem outSet_disj (a b c : ℕ) : Disjoint (outSet a b) (outSet b c) := by
  rw [Finset.disjoint_left]
  intro x hx hy
  have h1 := (Finset.mem_filter.mp hx).2
  have h2 := (Finset.mem_filter.mp hy).2
  omega
theorem outSet_union {a b c : ℕ} (h : a ≤ b) (h' : b ≤ c) : outSet a b ∪ outSet b c = outSet a c := by
  ext x
  simp only [Finset.mem_union, Finset.mem_filter, Finset.mem_univ, true_and]
  omega

theorem outHas_join {a b c : ℕ} (h : a ≤ b) (h' : b ≤ c) :
    iprop(OutHas d sc su tok tab a b ∗ OutHas d sc su tok tab b c) ⊢ OutHas d sc su tok tab a c := by
  unfold OutHas
  rw [← outSet_union h h']
  exact (pointsTo_union (ℓ := outV.view.loc (V d sc su)) (outSet_disj a b c)).2

theorem outHas_none (a : ℕ) : (BI.emp : sProp 𝕄) ⊢ OutHas d sc su tok tab a a := by
  unfold OutHas
  have e : outSet a a = ∅ := by
    ext x; simp only [Finset.mem_filter, Finset.mem_univ, true_and, Finset.notMem_empty, iff_false]; omega
  rw [e]
  exact Entails.of_eq pointsTo_empty.symm

theorem outAny_split {a b c : ℕ} (h : a ≤ b) (h' : b ≤ c) :
    OutAny (F := F) d sc su a c ⊢ iprop(OutAny (F := F) d sc su a b ∗ OutAny (F := F) d sc su b c) := by
  unfold OutAny
  rw [← outSet_union h h']
  iintro ⟨%f, H⟩
  ihave H := (pointsTo_union (ℓ := outV.view.loc (V d sc su)) (outSet_disj a b c)).1 $$ H
  icases H with ⟨Ha, Hb⟩
  isplitl [Ha]
  · iexists f; iexact Ha
  · iexists f; iexact Hb

theorem rowAny_split (p : ℕ) : RowAny (F := F) d sc su p
    ⊢ iprop(ColAny (F := F) d sc su p 0 128 ∗ ColAny (F := F) d sc su p 128 256 ∗ ColAny (F := F) d sc su p 256 300) := by
  unfold RowAny ColAny
  rw [← colSet_all p]
  iintro ⟨%f, H⟩
  ihave H := (pointsTo_union (ℓ := rowV.view.loc (V d sc su)) (colSet_disj' p)).1 $$ H
  icases H with ⟨H, Hc⟩
  ihave H := (pointsTo_union (ℓ := rowV.view.loc (V d sc su)) (colSet_disj p 0 128 256)).1 $$ H
  icases H with ⟨Ha, Hb⟩
  isplitl [Ha]; · iexists f; iexact Ha
  isplitl [Hb]; · iexists f; iexact Hb
  iexists f; iexact Hc

/-! ## The state of a slot -/

variable (b : ℕ)

/-- Slot `p`'s rows before its turn as chunk `k`: the copy of chunk `k - 3` to the result is on its way, or there was none. -/
def StS (p k : ℕ) (s : DmaSem sig) : sProp 𝕄 :=
  if 3 ≤ k then Transfers.Flight countersEmb (V d sc su) (.dma s) ι₀ 768000
    iprop(RowAny (F := F) d sc su p ∗ OutHas d sc su tok tab (b + 80 * (k - 3)) (b + 80 * (k - 3) + 80))
  else iprop(RowAny (F := F) d sc su p ∗ semVal (V d sc su, .dma s) 0)
/-- Slot `p`'s tokens before its turn as chunk `g`: on their way, or there is no such chunk. -/
def IdxS (p g : ℕ) (si : DmaSem sig) : sProp 𝕄 :=
  if g < 320 then Transfers.Flight countersEmb (V d sc su) (.dma si) ι₀ 2560 (IdxHas d sc su tok (b + 80 * g) p)
  else iprop(IdxAny (F := F) d sc su p ∗ semVal (V d sc su, .dma si) 0)
/-- Slot `p` at its turn as chunk `g`: its three gathers are on their way, or there is no such chunk. -/
def GatS (p g : ℕ) (gp sp : DmaSem sig) : sProp 𝕄 :=
  if g < 320 then iprop(GatFly d sc su tok tab (b + 80 * g) p gp 0 ∗ ColAny (F := F) d sc su p 256 300 ∗ semVal (V d sc su, .dma sp) 0)
  else iprop(StS d sc su tok tab b p g sp ∗ semVal (V d sc su, .dma gp) 0 ∗ IdxAny (F := F) d sc su p ∗ TailAny (F := F) d sc su p)
/-- The result's rows that are in place before step `g`. -/
def OutS (g : ℕ) : sProp 𝕄 := OutHas d sc su tok tab b (b + 80 * min (g - 2) 317)

variable (O : CellTallies nD τ sig (HIx 1)) (W : Waits sig (HIx 1))

/-- Before step `g`, whose slot is `p`: `q` is the next one's, `r` that of the one after. -/
def Inv3 (p q r : ℕ) (si gp gq gr sp sq sr : DmaSem sig) (g : ℕ) : sProp 𝕄 :=
  iprop(GatS d sc su tok tab b p g gp sp
    ∗ IdxS d sc su tok b q (g + 1) si ∗ StS d sc su tok tab b q (g + 1) sq ∗ TailAny (F := F) d sc su q ∗ semVal (V d sc su, .dma gq) 0
    ∗ IdxAny (F := F) d sc su r ∗ StS d sc su tok tab b r (g + 2) sr ∗ TailAny (F := F) d sc su r ∗ semVal (V d sc su, .dma gr) 0
    ∗ TokSh d sc su tok ∗ TabSh d sc su tab ∗ TlSh d sc su tl ∗ OutS d sc su tok tab b g ∗ OutAny (F := F) d sc su (b + 80 * g) (b + 25600) ∗ Owe d sc su O W)

/-! ## The step -/

section Steps
variable {p q r : ℕ} (hp : p < 3) (hq : q < 3) (hr : r < 3) (si gp gq gr sp sq sr : DmaSem sig)
variable {c3 c4 c5 : Prop} [Decidable c3] [Decidable c4] [Decidable c5]
variable (o3 : Fin 1 → ℕ) (h3 : c3 → ∀ a, o3 a + S80.size a ≤ S819200.size a)
variable (o4 : Fin 2 → ℕ) (h4 : c3 → c4 → ∀ a, o4 a + S80x300.size a ≤ S819200x300.size a)
variable (o5 : Fin 1 → ℕ) (h5 : c5 → ∀ a, o5 a + S80.size a ≤ S819200.size a)
variable (o6 : Fin 2 → ℕ) (h6 : ∀ a, o6 a + S80x300.size a ≤ S819200x300.size a)
variable (htok : ∀ n, (tokAt tok n).toNat < 100000)
variable (htl : ∀ x : S100000x128.Idx, (x 1).val < 44 → tl x = tabAt tab (x 0).val (256 + (x 1).val))
variable (g : ℕ)

/-- Slot `q`'s last copy to the result has landed: its rows are free, and those of the result are in place. -/
theorem outS_step (h : 2 ≤ g) (h' : g < 319) :
    iprop(OutS d sc su tok tab b g ∗ OutHas d sc su tok tab (b + 80 * (g + 1 - 3)) (b + 80 * (g + 1 - 3) + 80)) ⊢ OutS d sc su tok tab b (g + 1) := by
  unfold OutS
  have e1 : min (g - 2) 317 = g + 1 - 3 := by omega
  have e2 : b + 80 * min (g + 1 - 2) 317 = b + 80 * (g + 1 - 3) + 80 := by omega
  rw [e1, e2]
  exact outHas_join d sc su tok tab (by omega) (by omega)

variable {α : Type} {Q : α → sProp (MT nD τ sig (HIx 1) (Elt F) ℕ UU ℕ)}

/-- The wait for slot `q`'s last copy to the result, if there was one. -/
theorem wp_freeSlot (hg : g < 319) (hc4 : c4 ↔ 2 ≤ g) {h4' : c4 → ∀ a, o4 a + S80x300.size a ≤ S819200x300.size a} {h' hsrc}
    {K : PUnit → Prog (TpuEff nD τ sig (Elt F) Λ₀ (.scVector sc su)) α} :
    iprop(Transfers.MayWaits (V d sc su) ι₀ O ∗ StS d sc su tok tab b q (g + 1) sq ∗ OutS d sc su tok tab b g ∗ Owe d sc su O W)
      ⊢ iprop((iprop(RowAny (F := F) d sc su q ∗ semVal (V d sc su, .dma sq) 0 ∗ OutS d sc su tok tab b (g + 1) ∗ Owe d sc su O W)
          -∗ wp frame (wpE (defs₀ (F := F)) 𝒱₀ (V d sc su) none) Set.univ (K ⟨⟩) Q)
        -∗ wp frame (wpE (defs₀ (F := F)) 𝒱₀ (V d sc su) none) Set.univ
          (if h : c4 then .op (.waitDma2 sq (rowM q h') (outM o4 (h4' h)) hsrc (View.wordExact_bits rfl)) K else K ⟨⟩) Q) := by
  iintro ⟨#Hmw, Hst, Ho, HO⟩ Hk
  by_cases hc : c4
  · rw [dif_pos hc]
    have hg2 := hc4.mp hc
    ihave Hst := (Entails.of_eq (show StS d sc su tok tab b q (g + 1) sq = _ from if_pos (by omega))) $$ Hst
    iapply (wp_storeWait d sc su tok tab O W q (b + 80 * (g + 1 - 3))) $$ [Hst HO]
    · isplitl [Hst]; · iexact Hst
      isplitl [HO]; · iexact HO
      iexact Hmw
    iintro ⟨Hr, Hd, Hs, HO⟩
    iapply Hk
    isplitl [Hr]; · iexact Hr
    isplitl [Hs]; · iexact Hs
    isplitr [HO]
    · iapply (outS_step d sc su tok tab b g hg2 hg) $$ [Ho Hd]
      isplitl [Ho]; · iexact Ho
      iexact Hd
    iexact HO
  · rw [dif_neg hc]
    have hg2 : ¬ 2 ≤ g := fun hh => hc (hc4.mpr hh)
    ihave Hst := (Entails.of_eq (show StS d sc su tok tab b q (g + 1) sq = _ from if_neg (by omega))) $$ Hst
    icases Hst with ⟨Hr, Hs⟩
    iapply Hk
    isplitl [Hr]; · iexact Hr
    isplitl [Hs]; · iexact Hs
    isplitr [HO]
    · iapply (Entails.of_eq (show OutS d sc su tok tab b g = OutS d sc su tok tab b (g + 1) by
        unfold OutS; rw [show min (g - 2) 317 = min (g + 1 - 2) 317 by omega])) $$ Ho
    iexact HO

include htok in
/-- The next chunk's first two gathers start. -/
theorem wp_fetchProg (h : c3) (hc3 : c3 ↔ g < 319) (hc4 : c4 ↔ 2 ≤ g) :
    iprop(Transfers.MayWaits (V d sc su) ι₀ O ∗ IdxS d sc su tok b q (g + 1) si ∗ StS d sc su tok tab b q (g + 1) sq ∗ TailAny (F := F) d sc su q ∗ semVal (V d sc su, .dma gq) 0
        ∗ TabSh d sc su tab ∗ TlSh d sc su tl ∗ OutS d sc su tok tab b g ∗ Owe d sc su O W)
      ⊢ wp frame (wpE (defs₀ (F := F)) 𝒱₀ (V d sc su) none) Set.univ (fetchProg (F := F) sc su hq si gq sq o3 h3 o4 h4 h)
        (fun _ => iprop(Gat2 d sc su tok tab tl (b + 80 * (g + 1)) hq gq ∗ ColAny (F := F) d sc su q 256 300 ∗ semVal (V d sc su, .dma sq) 0 ∗ semVal (V d sc su, .dma si) 0
          ∗ TabSh d sc su tab ∗ TlSh d sc su tl ∗ OutS d sc su tok tab b (g + 1) ∗ Owe d sc su O W)) := by
  have hg := hc3.mp h
  unfold fetchProg
  simp only [Prog.bind_lift]
  iintro ⟨#Hmw, Hi, Hst, Ht, Hgq, Htab, Htl, Ho, HO⟩
  ihave Hi := (Entails.of_eq (show IdxS d sc su tok b q (g + 1) si = _ from if_pos (by omega))) $$ Hi
  iapply (wp_idxWait d sc su tok O W q (b + 80 * (g + 1))) $$ [Hi HO]
  · isplitl [Hi]; · iexact Hi
    isplitl [HO]; · iexact HO
    iexact Hmw
  iintro ⟨Hi, Hsi, HO⟩
  iapply (wp_freeSlot d sc su tok tab b O W sq o4 g hg hc4) $$ [Hst Ho HO]
  · isplitr; · iexact Hmw
    isplitl [Hst]; · iexact Hst
    isplitl [Ho]; · iexact Ho
    iexact HO
  iintro ⟨Hr, Hs, Ho, HO⟩
  ihave Hr := (rowAny_split d sc su q) $$ Hr
  icases Hr with ⟨Ha, Hb, Hc⟩
  iapply (wp_gatherA d sc su tok tab tl htok (b + 80 * (g + 1)) hq) $$ [Htab Htl Hi Ha Hb Ht Hgq]
  · isplitl [Htab]; · iexact Htab
    isplitl [Htl]; · iexact Htl
    isplitl [Hi]; · iexact Hi
    isplitl [Ha]; · iexact Ha
    isplitl [Hb]; · iexact Hb
    isplitl [Ht]; · iexact Ht
    iexact Hgq
  iintro ⟨Htab, Htl, Hg⟩
  iapply (wp_gatherB d sc su tok tab tl (b + 80 * (g + 1)) hq) $$ Hg
  iintro Hg
  rw [wp_pure]
  imodintro
  isplitl [Hg]; · iexact Hg
  isplitl [Hc]; · iexact Hc
  isplitl [Hs]; · iexact Hs
  isplitl [Hsi]; · iexact Hsi
  isplitl [Htab]; · iexact Htab
  isplitl [Htl]; · iexact Htl
  isplitl [Ho]; · iexact Ho
  iexact HO

include htok htl in
/-- The next chunk's gathers start, if there is one. -/
theorem wp_fetch (hg : g < 320) (hc3 : c3 ↔ g < 319) (hc4 : c4 ↔ 2 ≤ g) {h' hi hk hn hsrc he hsp hrr}
    {K : PUnit → Prog (TpuEff nD τ sig (Elt F) Λ₀ (.scVector sc su)) α} :
    iprop(Transfers.MayWaits (V d sc su) ι₀ O ∗ IdxS d sc su tok b q (g + 1) si ∗ StS d sc su tok tab b q (g + 1) sq ∗ TailAny (F := F) d sc su q ∗ semVal (V d sc su, .dma gq) 0
        ∗ TabSh d sc su tab ∗ TlSh d sc su tl ∗ OutS d sc su tok tab b g ∗ Owe d sc su O W)
      ⊢ iprop((iprop(GatS d sc su tok tab b q (g + 1) gq sq ∗ semVal (V d sc su, .dma si) 0
          ∗ TabSh d sc su tab ∗ TlSh d sc su tl ∗ OutS d sc su tok tab b (g + 1) ∗ Owe d sc su O W)
          -∗ wp frame (wpE (defs₀ (F := F)) 𝒱₀ (V d sc su) none) Set.univ (K ⟨⟩) Q)
        -∗ wp frame (wpE (defs₀ (F := F)) 𝒱₀ (V d sc su) none) Set.univ
          (if h : c3 then (fetchProg (F := F) sc su hq si gq sq o3 h3 o4 h4 h >>= fun _ =>
              SparseCore.enqueueIndirectGather hk tlM (tailM q h') gathers_S100000x128_S80x128 (idxM q hi) hn gq hsrc he hsp hrr >>= K) else K ⟨⟩) Q) := by
  iintro ⟨#Hmw, Hi, Hst, Ht, Hgq, Htab, Htl, Ho, HO⟩ Hk
  by_cases hc : c3
  · rw [dif_pos hc, wp_bind]
    have hg' := hc3.mp hc
    iapply (wp_wand_r frame _ Set.univ)
    isplitr [Hk]
    · iapply (wp_fetchProg d sc su tok tab tl b O W hq si gq sq o3 h3 o4 h4 htok g hc hc3 hc4)
      isplitr; · iexact Hmw
      isplitl [Hi]; · iexact Hi
      isplitl [Hst]; · iexact Hst
      isplitl [Ht]; · iexact Ht
      isplitl [Hgq]; · iexact Hgq
      isplitl [Htab]; · iexact Htab
      isplitl [Htl]; · iexact Htl
      isplitl [Ho]; · iexact Ho
      iexact HO
    iintro %_ ⟨Hg, Hc, Hs, Hsi, Htab, Htl, Ho, HO⟩
    iapply (wp_gatherC d sc su tok tab tl htl (b + 80 * (g + 1)) hq) $$ Hg
    iintro Hg
    iapply Hk
    isplitl [Hg Hc Hs]
    · iapply (Entails.of_eq (show GatS d sc su tok tab b q (g + 1) gq sq = _ from if_pos (by omega)).symm)
      isplitl [Hg]; · iexact Hg
      isplitl [Hc]; · iexact Hc
      iexact Hs
    isplitl [Hsi]; · iexact Hsi
    isplitl [Htab]; · iexact Htab
    isplitl [Htl]; · iexact Htl
    isplitl [Ho]; · iexact Ho
    iexact HO
  · rw [dif_neg hc]
    have hg' : g = 319 := by
      have : ¬ g < 319 := fun hh => hc (hc3.mpr hh)
      omega
    ihave Hi := (Entails.of_eq (show IdxS d sc su tok b q (g + 1) si = _ from if_neg (by omega))) $$ Hi
    icases Hi with ⟨Hi, Hsi⟩
    iapply Hk
    isplitl [Hst Hgq Hi Ht]
    · iapply (Entails.of_eq (show GatS d sc su tok tab b q (g + 1) gq sq = _ from if_neg (by omega)).symm)
      isplitl [Hst]; · iexact Hst
      isplitl [Hgq]; · iexact Hgq
      isplitl [Hi]; · iexact Hi
      iexact Ht
    isplitl [Hsi]; · iexact Hsi
    isplitl [Htab]; · iexact Htab
    isplitl [Htl]; · iexact Htl
    isplitl [Ho]
    · iapply (Entails.of_eq (show OutS d sc su tok tab b g = OutS d sc su tok tab b (g + 1) by
        unfold OutS; rw [show min (g - 2) 317 = min (g + 1 - 2) 317 by omega])) $$ Ho
    iexact HO

/-- The copy of the tokens of the chunk after the next starts, if there is one. -/
theorem wp_loadNext (hg : g < 320) (hc5 : c5 ↔ g < 318) (e5 : c5 → o5 = ![b + 80 * (g + 2)]) {h5' : c5 → ∀ a, o5 a + S80.size a ≤ S819200.size a} {h' hdst hty}
    {K : PUnit → Prog (TpuEff nD τ sig (Elt F) Λ₀ (.scVector sc su)) α} :
    iprop(TokSh d sc su tok ∗ IdxAny (F := F) d sc su r ∗ semVal (V d sc su, .dma si) 0)
      ⊢ iprop((iprop(TokSh d sc su tok ∗ IdxS d sc su tok b r (g + 2) si)
          -∗ wp frame (wpE (defs₀ (F := F)) 𝒱₀ (V d sc su) none) Set.univ (K ⟨⟩) Q)
        -∗ wp frame (wpE (defs₀ (F := F)) 𝒱₀ (V d sc su) none) Set.univ
          (if h : c5 then .op (.enqueueDma (tokM o5 (h5' h)) (.here (idxM r h')) (.dma si) (View.wordExact_bits rfl) hdst hty) K else K ⟨⟩) Q) := by
  iintro ⟨Ht, Hi, Hs⟩ Hk
  by_cases hc : c5
  · rw [dif_pos hc]
    have hg' := hc5.mp hc
    iapply (wp_idxLoad d sc su tok r (b + 80 * (g + 2)) o5 (e5 hc)) $$ [Ht Hi Hs]
    · isplitl [Ht]; · iexact Ht
      isplitl [Hi]; · iexact Hi
      iexact Hs
    iintro ⟨Ht, Hi⟩
    iapply Hk
    isplitl [Ht]; · iexact Ht
    iapply (Entails.of_eq (show IdxS d sc su tok b r (g + 2) si = _ from if_pos (by omega)).symm) $$ Hi
  · rw [dif_neg hc]
    have hg' : ¬ g < 318 := fun hh => hc (hc5.mpr hh)
    iapply Hk
    isplitl [Ht]; · iexact Ht
    iapply (Entails.of_eq (show IdxS d sc su tok b r (g + 2) si = _ from if_neg (by omega)).symm)
    isplitl [Hi]; · iexact Hi
    iexact Hs

include htok htl in
/-- The step up to its waits: this chunk's rows are in slot `p`, but for the last 44 columns. -/
theorem wp_waitProg (hg : g < 320) (hc3 : c3 ↔ g < 319) (hc4 : c4 ↔ 2 ≤ g) (hc5 : c5 ↔ g < 318) (e5 : c5 → o5 = ![b + 80 * (g + 2)]) :
    iprop(Transfers.MayWaits (V d sc su) ι₀ O ∗ Inv3 d sc su tok tab tl b O W p q r si gp gq gr sp sq sr g)
      ⊢ wp frame (wpE (defs₀ (F := F)) 𝒱₀ (V d sc su) none) Set.univ (waitProg (F := F) sc su hp hq hr si gp gq sq o3 h3 o4 h4 o5 h5)
        (fun x => iprop(⌜x = ⟨k0_pay1, k0_pay2, k0_pay3⟩⌝ ∗ GatDone d sc su tok tab (b + 80 * g) p ∗ ColAny (F := F) d sc su p 256 300 ∗ semVal (V d sc su, .dma gp) 0 ∗ semVal (V d sc su, .dma sp) 0
          ∗ GatS d sc su tok tab b q (g + 1) gq sq
          ∗ IdxS d sc su tok b r (g + 2) si ∗ StS d sc su tok tab b r (g + 2) sr ∗ TailAny (F := F) d sc su r ∗ semVal (V d sc su, .dma gr) 0
          ∗ TokSh d sc su tok ∗ TabSh d sc su tab ∗ TlSh d sc su tl ∗ OutS d sc su tok tab b (g + 1) ∗ OutAny (F := F) d sc su (b + 80 * g) (b + 25600) ∗ Owe d sc su O W)) := by
  unfold waitProg Inv3
  simp only [Prog.bind_lift]
  iintro ⟨#Hmw, Hg, Hiq, Hsq, Htq, Hgq, Hir, Hsr, Htr, Hgr, Htok, Htab, Htl, Ho, Hoa, HO⟩
  iapply (wp_fetch d sc su tok tab tl b O W hq si gq sq o3 h3 o4 h4 htok htl g hg hc3 hc4) $$ [Hiq Hsq Htq Hgq Htab Htl Ho HO]
  · isplitr; · iexact Hmw
    isplitl [Hiq]; · iexact Hiq
    isplitl [Hsq]; · iexact Hsq
    isplitl [Htq]; · iexact Htq
    isplitl [Hgq]; · iexact Hgq
    isplitl [Htab]; · iexact Htab
    isplitl [Htl]; · iexact Htl
    isplitl [Ho]; · iexact Ho
    iexact HO
  iintro ⟨Hgq, Hsi, Htab, Htl, Ho, HO⟩
  iapply (wp_loadNext d sc su tok b si o5 g hg hc5 e5) $$ [Htok Hir Hsi]
  · isplitl [Htok]; · iexact Htok
    isplitl [Hir]; · iexact Hir
    iexact Hsi
  iintro ⟨Htok, Hir⟩
  ihave Hg := (Entails.of_eq (show GatS d sc su tok tab b p g gp sp = _ from if_pos (by omega))) $$ Hg
  icases Hg with ⟨Hg, Hc, Hsp⟩
  iapply (wp_gatherWait d sc su tok tab O W (b + 80 * g) 0 (by norm_num)) $$ [Hg HO]
  · isplitl [Hg]; · iexact Hg
    isplitl [HO]; · iexact HO
    iexact Hmw
  iintro ⟨Hg, HO⟩
  iapply (wp_gatherWait d sc su tok tab O W (b + 80 * g) (0 + 80 * 4096) (by norm_num)) $$ [Hg HO]
  · isplitl [Hg]; · iexact Hg
    isplitl [HO]; · iexact HO
    iexact Hmw
  iintro ⟨Hg, HO⟩
  iapply (wp_gatherWaitAll d sc su tok tab O W (b + 80 * g) (0 + 80 * 4096 + 80 * 4096) (by norm_num)) $$ [Hg HO]
  · isplitl [Hg]; · iexact Hg
    isplitl [HO]; · iexact HO
    iexact Hmw
  iintro ⟨Hg, Hgp, HO⟩
  rw [wp_pure]
  imodintro
  isplitr; · ipureintro; rfl
  isplitl [Hg]; · iexact Hg
  isplitl [Hc]; · iexact Hc
  isplitl [Hgp]; · iexact Hgp
  isplitl [Hsp]; · iexact Hsp
  isplitl [Hgq]; · iexact Hgq
  isplitl [Hir]; · iexact Hir
  isplitl [Hsr]; · iexact Hsr
  isplitl [Htr]; · iexact Htr
  isplitl [Hgr]; · iexact Hgr
  isplitl [Htok]; · iexact Htok
  isplitl [Htab]; · iexact Htab
  isplitl [Htl]; · iexact Htl
  isplitl [Ho]; · iexact Ho
  isplitl [Hoa]; · iexact Hoa
  iexact HO

include htok htl in
/-- The whole step: the slots have each moved on by one chunk. -/
theorem wp_step (hg : g < 320) (hc3 : c3 ↔ g < 319) (hc4 : c4 ↔ 2 ≤ g) (hc5 : c5 ↔ g < 318) (e5 : c5 → o5 = ![b + 80 * (g + 2)])
    (e6 : o6 = ![b + 80 * g, 0]) (l : Scf.Loop 32) (hl : l.trips = 80) (hok : l.OK)
    (body : IVec S16 1 → IVec S16 32 → Fin l.trips → Unit → Prog (TpuEff nD τ sig (Elt F) Λ₀ (.scVector sc su)) Unit)
    (hbody : ∀ t acc, iprop(RowMid d sc su tok tab (b + 80 * g) p t.val 0 ∗ TailHas d sc su tok tab (b + 80 * g) p)
      ⊢ wp frame (wpE (defs₀ (F := F)) 𝒱₀ (V d sc su) none) Set.univ (body k0_pay2 (minsi k0_pay1 k0_pay3) t acc)
        (fun _ => iprop(RowMid d sc su tok tab (b + 80 * g) p (t.val + 1) 0 ∗ TailHas d sc su tok tab (b + 80 * g) p))) :
    iprop(Transfers.MayWaits (V d sc su) ι₀ O ∗ Inv3 d sc su tok tab tl b O W p q r si gp gq gr sp sq sr g)
      ⊢ wp frame (wpE (defs₀ (F := F)) 𝒱₀ (V d sc su) none) Set.univ (stepProg (F := F) sc su hp hq hr si gp gq sp sq o3 h3 o4 h4 o5 h5 o6 h6 l hok body)
        (fun _ => Inv3 d sc su tok tab tl b O W q r p si gq gr gp sq sr sp (g + 1)) := by
  unfold stepProg
  rw [wp_bind]
  refine (wp_waitProg d sc su tok tab tl b O W hp hq hr si gp gq gr sp sq sr o3 h3 o4 h4 o5 h5 htok htl g hg hc3 hc4 hc5 e5).trans ?_
  refine wp_mono _ _ _ fun x => ?_
  iintro ⟨%hx, Hg, Hc, Hgp, Hsp, Hgq, Hir, Hsr, Htr, Hgr, Htok, Htab, Htl, Ho, Hoa, HO⟩
  subst hx
  simp only [Prog.bind_lift]
  unfold GatDone
  icases Hg with ⟨Ha, Hb, Ht, Hip⟩
  iapply (wp_fix d sc su tok tab (b + 80 * g) p l hl hok (body k0_pay2 (minsi k0_pay1 k0_pay3)) hbody) $$ [Ha Hb Hc Ht]
  · isplitl [Ha]; · iexact Ha
    isplitl [Hb]; · iexact Hb
    isplitl [Hc]; · iexact Hc
    iexact Ht
  iintro ⟨Hr, Ht⟩
  ihave Hoa := (outAny_split (F := F) d sc su (a := b + 80 * g) (b := b + 80 * g + 80) (c := b + 25600) (by omega) (by omega)) $$ Hoa
  icases Hoa with ⟨Hoc, Hoa⟩
  iapply (State.wp_store d sc su tok tab p (b + 80 * g) o6 e6) $$ [Hr Hoc Hsp]
  · isplitl [Hr]; · iexact Hr
    isplitl [Hoc]; · iexact Hoc
    iexact Hsp
  iintro Hst
  rw [wp_pure]
  imodintro
  unfold Inv3
  isplitl [Hgq]; · iexact Hgq
  isplitl [Hir]; · iexact Hir
  isplitl [Hsr]; · iexact Hsr
  isplitl [Htr]; · iexact Htr
  isplitl [Hgr]; · iexact Hgr
  isplitl [Hip]; · iexact Hip
  isplitl [Hst]
  · iapply (Entails.of_eq (show StS d sc su tok tab b p (g + 1 + 2) sp = Transfers.Flight countersEmb (V d sc su) (.dma sp) ι₀ 768000
        iprop(RowAny (F := F) d sc su p ∗ OutHas d sc su tok tab (b + 80 * g) (b + 80 * g + 80)) by
      unfold StS; rw [if_pos (by omega), show g + 1 + 2 - 3 = g by omega]).symm) $$ Hst
  isplitl [Ht]; · iexact Ht
  isplitl [Hgp]; · iexact Hgp
  isplitl [Htok]; · iexact Htok
  isplitl [Htab]; · iexact Htab
  isplitl [Htl]; · iexact Htl
  isplitl [Ho]; · iexact Ho
  isplitl [Hoa]; · iexact Hoa
  iexact HO

end Steps

end Cert.Proof.Step

end
-- ==== Proof.Branch.lean ====
/- The main loop: each of its 320 trips is a step at one of the three slots. -/
module

public import proofs.«01_k».proof.Proof.Step

@[expose] public section

noncomputable section

namespace Cert.Proof.Branch

open Cert.KernelIdeal Cert.KernelIdeal.Gen Cert.Proof.Slots Cert.Proof.Issue Cert.Proof.State Cert.Proof.Gather Cert.Proof.Fixup Cert.Proof.Trip Cert.Proof.Step
open Idealize.ShloMosaic
open Idealize.ShloMosaic.ValueIdx
open Idealize.ShloMosaic.SparseCore (S V T rows gatherPayload)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The trips' conditions -/

theorem trips1 : k0_t1_loop.trips = 320 := by decide +kernel
theorem trips2 : k0_t2_loop.trips = 80 := by decide +kernel
theorem trips3 : k0_t3_loop.trips = 80 := by decide +kernel
theorem trips4 : k0_t4_loop.trips = 80 := by decide +kernel
theorem lt1 (t : Fin k0_t1_loop.trips) : t.val < 320 := lt_of_lt_of_eq t.isLt trips1

theorem cond1 : ∀ t : Fin k0_t1_loop.trips, k0_cond1 t = 1#1 ↔ t.val % 3 ≠ 0 := by decide +kernel
theorem cond2 : ∀ t : Fin k0_t1_loop.trips, t.val % 3 ≠ 0 → (k0_cond2 t = 1#1 ↔ t.val % 3 = 2) := by decide +kernel
theorem cond3 : ∀ t : Fin k0_t1_loop.trips, k0_cond3 t = 1#1 ↔ t.val < 319 := by decide +kernel
theorem cond4 : ∀ t : Fin k0_t1_loop.trips, k0_cond4 t = 1#1 ↔ 2 ≤ t.val := by decide +kernel
theorem cond5 : ∀ t : Fin k0_t1_loop.trips, k0_cond5 t = 1#1 ↔ t.val < 318 := by decide +kernel
theorem cond6 : ∀ t : Fin k0_t1_loop.trips, k0_cond6 t = 1#1 ↔ t.val < 319 := cond3
theorem cond7 : ∀ t : Fin k0_t1_loop.trips, k0_cond7 t = 1#1 ↔ 2 ≤ t.val := cond4
theorem cond8 : ∀ t : Fin k0_t1_loop.trips, k0_cond8 t = 1#1 ↔ t.val < 318 := cond5
theorem cond9 : ∀ t : Fin k0_t1_loop.trips, k0_cond9 t = 1#1 ↔ t.val < 319 := cond3
theorem cond10 : ∀ t : Fin k0_t1_loop.trips, k0_cond10 t = 1#1 ↔ 2 ≤ t.val := cond4
theorem cond11 : ∀ t : Fin k0_t1_loop.trips, k0_cond11 t = 1#1 ↔ t.val < 318 := cond5

variable [FloatOps F]

/-- The main loop's body on the tile `i`. -/
abbrev body1 (i : grid0.Coords) (v2 : BitVec 32) := k0_t1_body (F := F) i tokV (Memref.isWhole_whole _) tabV (Memref.isWhole_whole _) tlV (Memref.isWhole_whole _)
  outV (Memref.isWhole_whole _) idxV (Memref.isWhole_whole _) rowV (Memref.isWhole_whole _) tailV (Memref.isWhole_whole _)
  cc0_scratch3 cc0_scratch4 cc0_scratch5 cc0_scratch6 cc0_scratch7 cc0_scratch8 cc0_scratch9 v2

/-- The first row of the result that the tile `i` writes. -/
def base (i : grid0.Coords) : ℕ := 51200 * (i 1).val + 25600 * (i 0).val

variable (d : Dev nD) (i : grid0.Coords)
variable (tok : S819200.Idx → Elt F .i32) (tab : S100000x300.Idx → Elt F .f32) (tl : S100000x128.Idx → Elt F .f32)
variable (O : CellTallies nD τ sig (HIx 1)) (W : Waits sig (HIx 1))

abbrev scOf (i : grid0.Coords) : Fin τ.nSC := (i 0).castLE hcore0
abbrev suOf (i : grid0.Coords) : Fin τ.nSub := (i 1).castLE hsub0

/-- The three bodies of the loops that complete a slot's rows. -/
abbrev rowBody2 (i : grid0.Coords) (v2 : BitVec 32) (t : Fin k0_t1_loop.trips) (h1 : k0_cond1 t = 1#1) (h2 : k0_cond2 t = 1#1) (v95 : IVec S16 1) (v97 : IVec S16 32) :=
  k0_t2_body (F := F) i tokV (Memref.isWhole_whole _) tabV (Memref.isWhole_whole _) tlV (Memref.isWhole_whole _)
      outV (Memref.isWhole_whole _) idxV (Memref.isWhole_whole _) rowV (Memref.isWhole_whole _) tailV (Memref.isWhole_whole _)
      cc0_scratch3 cc0_scratch4 cc0_scratch5 cc0_scratch6 cc0_scratch7 cc0_scratch8 cc0_scratch9 v2 t h1 h2 v95 v97
abbrev rowBody1 (i : grid0.Coords) (v2 : BitVec 32) (t : Fin k0_t1_loop.trips) (h1 : k0_cond1 t = 1#1) (h2 : ¬k0_cond2 t = 1#1) (v95 : IVec S16 1) (v97 : IVec S16 32) :=
  k0_t3_body (F := F) i tokV (Memref.isWhole_whole _) tabV (Memref.isWhole_whole _) tlV (Memref.isWhole_whole _)
      outV (Memref.isWhole_whole _) idxV (Memref.isWhole_whole _) rowV (Memref.isWhole_whole _) tailV (Memref.isWhole_whole _)
      cc0_scratch3 cc0_scratch4 cc0_scratch5 cc0_scratch6 cc0_scratch7 cc0_scratch8 cc0_scratch9 v2 t h1 h2 v95 v97
abbrev rowBody0 (i : grid0.Coords) (v2 : BitVec 32) (t : Fin k0_t1_loop.trips) (h1 : ¬k0_cond1 t = 1#1) (v95 : IVec S16 1) (v97 : IVec S16 32) :=
  k0_t4_body (F := F) i tokV (Memref.isWhole_whole _) tabV (Memref.isWhole_whole _) tlV (Memref.isWhole_whole _)
      outV (Memref.isWhole_whole _) idxV (Memref.isWhole_whole _) rowV (Memref.isWhole_whole _) tailV (Memref.isWhole_whole _)
      cc0_scratch3 cc0_scratch4 cc0_scratch5 cc0_scratch6 cc0_scratch7 cc0_scratch8 cc0_scratch9 v2 t h1 v95 v97

/-! ## One row of a slot -/

theorem row2 (n : ℕ) (v2 : BitVec 32) (t) (h1 : k0_cond1 t = 1#1) (h2 : k0_cond2 t = 1#1) (j : Fin k0_t2_loop.trips) (acc : Unit) :
    iprop(RowMid d (scOf i) (suOf i) tok tab n 2 j.val 0 ∗ TailHas d (scOf i) (suOf i) tok tab n 2)
      ⊢ wp frame (wpE (defs₀ (F := F)) 𝒱₀ (V d (scOf i) (suOf i)) none) Set.univ (rowBody2 (F := F) i v2 t h1 h2 k0_pay2 (minsi k0_pay1 k0_pay3) j acc)
        (fun _ => iprop(RowMid d (scOf i) (suOf i) tok tab n 2 (j.val + 1) 0 ∗ TailHas d (scOf i) (suOf i) tok tab n 2)) := by
  have hj : j.val < 80 := lt_of_lt_of_eq j.isLt trips2
  unfold rowBody2 k0_t2_body
  simp only [Prog.bind_lift]
  exact wp_trip d (scOf i) (suOf i) tok tab n 2 j.val hj (k0_off6_eq j) (k0_off7_eq j) (k0_off8_eq j) (k0_off9_eq j) (k0_off10_eq j)
    (show k0_chk1 t _ _ from fun _ _ => idx_lt j.val hj) (hi := fun h => h h1 h2)

theorem row1 (n : ℕ) (v2 : BitVec 32) (t) (h1 : k0_cond1 t = 1#1) (h2 : ¬k0_cond2 t = 1#1) (j : Fin k0_t3_loop.trips) (acc : Unit) :
    iprop(RowMid d (scOf i) (suOf i) tok tab n 1 j.val 0 ∗ TailHas d (scOf i) (suOf i) tok tab n 1)
      ⊢ wp frame (wpE (defs₀ (F := F)) 𝒱₀ (V d (scOf i) (suOf i)) none) Set.univ (rowBody1 (F := F) i v2 t h1 h2 k0_pay2 (minsi k0_pay1 k0_pay3) j acc)
        (fun _ => iprop(RowMid d (scOf i) (suOf i) tok tab n 1 (j.val + 1) 0 ∗ TailHas d (scOf i) (suOf i) tok tab n 1)) := by
  have hj : j.val < 80 := lt_of_lt_of_eq j.isLt trips3
  unfold rowBody1 k0_t3_body
  simp only [Prog.bind_lift]
  exact wp_trip d (scOf i) (suOf i) tok tab n 1 j.val hj (k0_off15_eq j) (k0_off16_eq j) (k0_off17_eq j) (k0_off18_eq j) (k0_off19_eq j)
    (show k0_chk2 t _ _ from fun _ _ => idx_lt j.val hj) (hi := fun h => h h1 h2)

theorem row0 (n : ℕ) (v2 : BitVec 32) (t) (h1 : ¬k0_cond1 t = 1#1) (j : Fin k0_t4_loop.trips) (acc : Unit) :
    iprop(RowMid d (scOf i) (suOf i) tok tab n 0 j.val 0 ∗ TailHas d (scOf i) (suOf i) tok tab n 0)
      ⊢ wp frame (wpE (defs₀ (F := F)) 𝒱₀ (V d (scOf i) (suOf i)) none) Set.univ (rowBody0 (F := F) i v2 t h1 k0_pay2 (minsi k0_pay1 k0_pay3) j acc)
        (fun _ => iprop(RowMid d (scOf i) (suOf i) tok tab n 0 (j.val + 1) 0 ∗ TailHas d (scOf i) (suOf i) tok tab n 0)) := by
  have hj : j.val < 80 := lt_of_lt_of_eq j.isLt trips4
  unfold rowBody0 k0_t4_body
  simp only [Prog.bind_lift]
  exact wp_trip d (scOf i) (suOf i) tok tab n 0 j.val hj (k0_off24_eq j) (k0_off25_eq j) (k0_off26_eq j) (k0_off27_eq j) (k0_off28_eq j)
    (show k0_chk3 t _ _ from fun _ => idx_lt j.val hj) (hi := fun h => h h1)

/-! ## One trip -/

/-- The semaphore of slot `p`'s gathers. -/
def gSem : ℕ → DmaSem sig
  | 0 => cc0_scratch4.sem
  | 1 => cc0_scratch5.sem
  | _ => cc0_scratch6.sem
/-- The semaphore of slot `p`'s copies to the result. -/
def sSem : ℕ → DmaSem sig
  | 0 => cc0_scratch7.sem
  | 1 => cc0_scratch8.sem
  | _ => cc0_scratch9.sem

/-- Before step `g`, at slot `p`, after which come `q` and `r`. -/
def InvP (p q r g : ℕ) : sProp 𝕄 := Inv3 d (scOf i) (suOf i) tok tab tl (base i) O W p q r cc0_scratch3.sem (gSem p) (gSem q) (gSem r) (sSem p) (sSem q) (sSem r) g
/-- Before step `g`. -/
def Inv (g : ℕ) : sProp 𝕄 :=
  if g % 3 = 0 then InvP d i tok tab tl O W 0 1 2 g else if g % 3 = 1 then InvP d i tok tab tl O W 1 2 0 g else InvP d i tok tab tl O W 2 0 1 g

section Trips
variable (htok : ∀ n, (tokAt tok n).toNat < 100000)
variable (htl : ∀ x : S100000x128.Idx, (x 1).val < 44 → tl x = tabAt tab (x 0).val (256 + (x 1).val))

include htok htl in
theorem trip2 (v2 : BitVec 32) (t : Fin k0_t1_loop.trips) (h1 : k0_cond1 t = 1#1) (h2 : k0_cond2 t = 1#1) (acc : Unit) :
    iprop(Transfers.MayWaits (V d (scOf i) (suOf i)) ι₀ O ∗ InvP d i tok tab tl O W 2 0 1 t.val)
      ⊢ wp frame (wpE (defs₀ (F := F)) 𝒱₀ (V d (scOf i) (suOf i)) none) Set.univ (body1 (F := F) i v2 t acc)
        (fun _ => InvP d i tok tab tl O W 0 1 2 (t.val + 1)) := by
  unfold body1 k0_t1_body
  simp only [dif_pos h1, dif_pos h2]
  exact wp_step d (scOf i) (suOf i) tok tab tl (base i) O W (p := 2) (q := 0) (r := 1) (by norm_num) (by norm_num) (by norm_num) _ _ _ _ _ _ _
    (k0_off3 i) (fun h => k0_off3_inb i t h1 h2 h) (k0_off4 i t) (fun h h' => k0_off4_inb i t h1 h2 h h')
    (k0_off5 i t) (fun h => k0_off5_inb i t h1 h2 h) (k0_off11 i t) (k0_off11_inb i t h1 h2) htok htl t.val (lt1 t)
    (cond3 t) (cond4 t) (cond5 t) (fun _ => (k0_off5_eq i t).trans (by unfold base; congr 1))
    ((k0_off11_eq i t).trans (by unfold base; congr 1)) k0_t2_loop trips2 (k0_t2_ok t h1 h2) (rowBody2 (F := F) i v2 t h1 h2) (row2 d i tok tab _ v2 t h1 h2)

include htok htl in
theorem trip1 (v2 : BitVec 32) (t : Fin k0_t1_loop.trips) (h1 : k0_cond1 t = 1#1) (h2 : ¬k0_cond2 t = 1#1) (acc : Unit) :
    iprop(Transfers.MayWaits (V d (scOf i) (suOf i)) ι₀ O ∗ InvP d i tok tab tl O W 1 2 0 t.val)
      ⊢ wp frame (wpE (defs₀ (F := F)) 𝒱₀ (V d (scOf i) (suOf i)) none) Set.univ (body1 (F := F) i v2 t acc)
        (fun _ => InvP d i tok tab tl O W 2 0 1 (t.val + 1)) := by
  unfold body1 k0_t1_body
  simp only [dif_pos h1, dif_neg h2]
  exact wp_step d (scOf i) (suOf i) tok tab tl (base i) O W (p := 1) (q := 2) (r := 0) (by norm_num) (by norm_num) (by norm_num) _ _ _ _ _ _ _
    (k0_off12 i) (fun h => k0_off12_inb i t h1 h2 h) (k0_off13 i t) (fun h h' => k0_off13_inb i t h1 h2 h h')
    (k0_off14 i t) (fun h => k0_off14_inb i t h1 h2 h) (k0_off20 i t) (k0_off20_inb i t h1 h2) htok htl t.val (lt1 t)
    (cond6 t) (cond7 t) (cond8 t) (fun _ => (k0_off14_eq i t).trans (by unfold base; congr 1))
    ((k0_off20_eq i t).trans (by unfold base; congr 1)) k0_t3_loop trips3 (k0_t3_ok t h1 h2) (rowBody1 (F := F) i v2 t h1 h2) (row1 d i tok tab _ v2 t h1 h2)

include htok htl in
theorem trip0 (v2 : BitVec 32) (t : Fin k0_t1_loop.trips) (h1 : ¬k0_cond1 t = 1#1) (acc : Unit) :
    iprop(Transfers.MayWaits (V d (scOf i) (suOf i)) ι₀ O ∗ InvP d i tok tab tl O W 0 1 2 t.val)
      ⊢ wp frame (wpE (defs₀ (F := F)) 𝒱₀ (V d (scOf i) (suOf i)) none) Set.univ (body1 (F := F) i v2 t acc)
        (fun _ => InvP d i tok tab tl O W 1 2 0 (t.val + 1)) := by
  unfold body1 k0_t1_body
  simp only [dif_neg h1]
  exact wp_step d (scOf i) (suOf i) tok tab tl (base i) O W (p := 0) (q := 1) (r := 2) (by norm_num) (by norm_num) (by norm_num) _ _ _ _ _ _ _
    (k0_off21 i) (fun h => k0_off21_inb i t h1 h) (k0_off22 i t) (fun h h' => k0_off22_inb i t h1 h h')
    (k0_off23 i t) (fun h => k0_off23_inb i t h1 h) (k0_off29 i t) (k0_off29_inb i t h1) htok htl t.val (lt1 t)
    (cond9 t) (cond10 t) (cond11 t) (fun _ => (k0_off23_eq i t).trans (by unfold base; congr 1))
    ((k0_off29_eq i t).trans (by unfold base; congr 1)) k0_t4_loop trips4 (k0_t4_ok t h1) (rowBody0 (F := F) i v2 t h1) (row0 d i tok tab _ v2 t h1)

theorem inv0 {g : ℕ} (h : g % 3 = 0) : Inv d i tok tab tl O W g = InvP d i tok tab tl O W 0 1 2 g := if_pos h
theorem inv1 {g : ℕ} (h : g % 3 = 1) : Inv d i tok tab tl O W g = InvP d i tok tab tl O W 1 2 0 g := (if_neg (by omega)).trans (if_pos h)
theorem inv2 {g : ℕ} (h : g % 3 = 2) : Inv d i tok tab tl O W g = InvP d i tok tab tl O W 2 0 1 g := (if_neg (by omega)).trans (if_neg (by omega))

attribute [local irreducible] Inv InvP k0_t1_body

theorem next0 (g : ℕ) (h : g % 3 = 0) : (g + 1) % 3 = 1 := by omega
theorem next2 (g : ℕ) (h : g % 3 = 2) : (g + 1) % 3 = 0 := by omega
theorem next1 (g : ℕ) (h : g % 3 = 1) : (g + 1) % 3 = 2 := by omega
theorem by3 {p : Prop} (g : ℕ) (h0 : g % 3 = 0 → p) (h1 : g % 3 = 1 → p) (h2 : g % 3 = 2 → p) : p := by
  rcases (show g % 3 = 0 ∨ g % 3 = 1 ∨ g % 3 = 2 by omega) with h | h | h
  · exact h0 h
  · exact h1 h
  · exact h2 h
theorem at0 (t : Fin k0_t1_loop.trips) (h : t.val % 3 = 0) : ¬k0_cond1 t = 1#1 := fun h' => (cond1 t).mp h' h
theorem at1 (t : Fin k0_t1_loop.trips) (h : t.val % 3 = 1) : k0_cond1 t = 1#1 ∧ ¬k0_cond2 t = 1#1 := by
  have h' : t.val % 3 ≠ 0 := by rw [h]; decide
  exact ⟨(cond1 t).mpr h', fun h2 => absurd (((cond2 t h').mp h2).symm.trans h) (by decide)⟩
theorem at2 (t : Fin k0_t1_loop.trips) (h : t.val % 3 = 2) : k0_cond1 t = 1#1 ∧ k0_cond2 t = 1#1 := by
  have h' : t.val % 3 ≠ 0 := by rw [h]; decide
  exact ⟨(cond1 t).mpr h', (cond2 t h').mpr h⟩

/-- A trip from one order of the slots to the next is a trip of the main loop. -/
theorem trip_of {A B X Y : sProp (MT nD τ sig (HIx 1) (Elt F) ℕ UU ℕ)} (e : A = X) (e' : B = Y) {p : Prog (TpuEff nD τ sig (Elt F) Λ₀ (.scVector (scOf i) (suOf i))) Unit}
    (h : iprop(Transfers.MayWaits (V d (scOf i) (suOf i)) ι₀ O ∗ X) ⊢ wp frame (wpE (defs₀ (F := F)) 𝒱₀ (V d (scOf i) (suOf i)) none) Set.univ p (fun _ => Y)) :
    iprop(Transfers.MayWaits (V d (scOf i) (suOf i)) ι₀ O ∗ A)
      ⊢ wp frame (wpE (defs₀ (F := F)) 𝒱₀ (V d (scOf i) (suOf i)) none) Set.univ p (fun _ => iprop(Transfers.MayWaits (V d (scOf i) (suOf i)) ι₀ O ∗ B)) := by
  subst e; subst e'
  iintro ⟨#Hmw, H⟩
  iapply (wp_wand_r frame _ Set.univ)
  isplitl [H]
  · iapply h
    isplitr; · iexact Hmw
    iexact H
  iintro %_ H
  isplitr; · iexact Hmw
  iexact H

include htok htl in
/-- A trip of the main loop. -/
theorem trip (v2 : BitVec 32) (t : Fin k0_t1_loop.trips) (acc : Unit) :
    iprop(Transfers.MayWaits (V d (scOf i) (suOf i)) ι₀ O ∗ Inv d i tok tab tl O W t.val)
      ⊢ wp frame (wpE (defs₀ (F := F)) 𝒱₀ (V d (scOf i) (suOf i)) none) Set.univ (body1 (F := F) i v2 t acc)
        (fun _ => iprop(Transfers.MayWaits (V d (scOf i) (suOf i)) ι₀ O ∗ Inv d i tok tab tl O W (t.val + 1))) := by
  exact by3 t.val
    (fun h => trip_of d i O (inv0 d i tok tab tl O W h) (inv1 d i tok tab tl O W (next0 _ h)) (trip0 d i tok tab tl O W htok htl v2 t (at0 t h) acc))
    (fun h => trip_of d i O (inv1 d i tok tab tl O W h) (inv2 d i tok tab tl O W (next1 _ h)) (trip1 d i tok tab tl O W htok htl v2 t (at1 t h).1 (at1 t h).2 acc))
    (fun h => trip_of d i O (inv2 d i tok tab tl O W h) (inv0 d i tok tab tl O W (next2 _ h)) (trip2 d i tok tab tl O W htok htl v2 t (at2 t h).1 (at2 t h).2 acc))

end Trips

variable {α : Type} {Q : α → sProp (MT nD τ sig (HIx 1) (Elt F) ℕ UU ℕ)}

/-- A loop of 320 trips. -/
theorem wp_loop320 (l : Scf.Loop 32) (hl : l.trips = 320) {hok : l.OK} (body : Fin l.trips → Unit → Prog (TpuEff nD τ sig (Elt F) Λ₀ (.scVector (scOf i) (suOf i))) Unit)
    (I : ℕ → sProp (MT nD τ sig (HIx 1) (Elt F) ℕ UU ℕ))
    (h : ∀ t acc, iprop(Transfers.MayWaits (V d (scOf i) (suOf i)) ι₀ O ∗ I t.val)
      ⊢ wp frame (wpE (defs₀ (F := F)) 𝒱₀ (V d (scOf i) (suOf i)) none) Set.univ (body t acc) (fun _ => iprop(Transfers.MayWaits (V d (scOf i) (suOf i)) ι₀ O ∗ I (t.val + 1))))
    {K : Unit → Prog (TpuEff nD τ sig (Elt F) Λ₀ (.scVector (scOf i) (suOf i))) α} :
    iprop(Transfers.MayWaits (V d (scOf i) (suOf i)) ι₀ O ∗ I 0)
      ⊢ iprop((I 320 -∗ wp frame (wpE (defs₀ (F := F)) 𝒱₀ (V d (scOf i) (suOf i)) none) Set.univ (K ⟨⟩) Q)
        -∗ wp frame (wpE (defs₀ (F := F)) 𝒱₀ (V d (scOf i) (suOf i)) none) Set.univ (Scf.Loop.for l hok ⟨⟩ body >>= K) Q) := by
  iintro H Hk
  iapply (Scf.wp_for_bind frame (wpE (defs₀ (F := F)) 𝒱₀ (V d (scOf i) (suOf i)) none) Set.univ l.lb l.ub l.st hok ⟨⟩ body
    (fun k _ => iprop(Transfers.MayWaits (V d (scOf i) (suOf i)) ι₀ O ∗ I k)) h) $$ H
  iintro %acc ⟨-, H⟩
  iapply Hk
  iapply (Entails.of_eq (congrArg I hl)) $$ H

end Cert.Proof.Branch

end
-- ==== Proof.Tile.lean ====
/- A vector subcore's whole task: the first chunk's tokens and gathers, the main loop, and the waits for the last three
   copies to the result. -/
module

public import proofs.«01_k».proof.Proof.Branch

@[expose] public section

noncomputable section

namespace Cert.Proof.Tile

open Cert.KernelIdeal Cert.KernelIdeal.Gen Cert.Proof.Slots Cert.Proof.Issue Cert.Proof.State Cert.Proof.Gather Cert.Proof.Fixup Cert.Proof.Trip Cert.Proof.Step Cert.Proof.Branch
open Idealize.ShloMosaic
open Idealize.ShloMosaic.ValueIdx
open Idealize.ShloMosaic.SparseCore (S V T rows gatherPayload)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

theorem lt0 : 0 < 3 := by norm_num
theorem lt1' : 1 < 3 := by norm_num
theorem lt2 : 2 < 3 := by norm_num

/-! ## The programs -/

section Programs
variable (i : grid0.Coords)

/-- The number of the tile's first row of the result, as the kernel computes it. -/
abbrev first : BitVec 32 := Scalar.muli (Scalar.addi (Scalar.muli (BitVec.ofNat 32 (i 1).val) 2#32) (BitVec.ofNat 32 (i 0).val)) 25600#32

/-- The first chunk's tokens, and its first gather. -/
def prog7 : Prog (TpuEff nD τ sig (Elt F) Λ₀ (.scVector (scOf i) (suOf i))) (BitVec 32) := do
  Prog.lift (.enqueueDma (tokM (k0_off1 i 0#32) (k0_off1_inb i 0)) (.here (idxM 0 (inbI lt0))) (.dma cc0_scratch3.sem) (View.wordExact_bits rfl) ((View.wordExact_bits rfl).reshape _ _) ⟨Or.inl rfl, trivial⟩)
  Prog.lift (.waitDma2 cc0_scratch3.sem (tokM (k0_off2 i) (k0_off2_inb i)) (idxM 0 (inbI lt0)) (View.wordExact_bits rfl) ((View.wordExact_bits rfl).reshape _ _))
  SparseCore.enqueueIndirectGather rfl (tabM 0 inb_S100000x300_S100000x128_0_0) (colM 0 0 (inbR lt0) inb_S80x300_S80x128_0_0) gathers_S100000x128_S80x128
    (idxM 0 (inbI lt0)) rfl cc0_scratch4.sem (View.wordExact_bits rfl) rfl (Or.inl rfl)
  pure (first i)

/-- The first chunk's other gathers, the second chunk's tokens, the main loop, and the wait for chunk 317's copy. -/
def prog8 (v2 : BitVec 32) : Prog (TpuEff nD τ sig (Elt F) Λ₀ (.scVector (scOf i) (suOf i))) PUnit := do
  SparseCore.enqueueIndirectGather rfl (tabM 128 inb_S100000x300_S100000x128_0_128) (colM 0 128 (inbR lt0) inb_S80x300_S80x128_0_128) gathers_S100000x128_S80x128
    (idxM 0 (inbI lt0)) rfl cc0_scratch4.sem (View.wordExact_bits rfl) rfl (Or.inl rfl)
  SparseCore.enqueueIndirectGather rfl tlM (tailM 0 (inbT lt0)) gathers_S100000x128_S80x128
    (idxM 0 (inbI lt0)) rfl cc0_scratch4.sem (View.wordExact_bits rfl) rfl (Or.inl rfl)
  Prog.lift (.enqueueDma (tokM (k0_off1 i 80#32) (k0_off1_inb i 1)) (.here (idxM 1 (inbI lt1'))) (.dma cc0_scratch3.sem) (View.wordExact_bits rfl) ((View.wordExact_bits rfl).reshape _ _) ⟨Or.inl rfl, trivial⟩)
  Scf.Loop.for k0_t1_loop k0_t1_ok ⟨⟩ (body1 (F := F) i v2)
  Prog.lift (.waitDma2 cc0_scratch9.sem (rowM 2 (inbR lt2)) (outM (k0_off30 i 25360#32) (k0_off30_inb i 0)) ((View.wordExact_bits rfl).reshape _ _) (View.wordExact_bits rfl))
  pure ⟨⟩

/-- The task. -/
def progAll : Prog (TpuEff nD τ sig (Elt F) Λ₀ (.scVector (scOf i) (suOf i))) PUnit := do
  let v2 : BitVec 32 ← prog7 i
  prog8 i v2
  Prog.lift (.waitDma2 cc0_scratch7.sem (rowM 0 (inbR lt0)) (outM (k0_off30 i 25440#32) (k0_off30_inb i 1)) ((View.wordExact_bits rfl).reshape _ _) (View.wordExact_bits rfl))
  Prog.lift (.waitDma2 cc0_scratch8.sem (rowM 1 (inbR lt1')) (outM (k0_off30 i 25520#32) (k0_off30_inb i 2)) ((View.wordExact_bits rfl).reshape _ _) (View.wordExact_bits rfl))
  pure ⟨⟩

/-- The kernel's body on the tile `i`. -/
abbrev bodyOf : Prog (TpuEff nD τ sig (Elt F) Λ₀ (.scVector (scOf i) (suOf i))) PUnit :=
  cc0_body (F := F) i tokV (Memref.isWhole_whole _) tabV (Memref.isWhole_whole _) tlV (Memref.isWhole_whole _)
    outV (Memref.isWhole_whole _) idxV (Memref.isWhole_whole _) rowV (Memref.isWhole_whole _) tailV (Memref.isWhole_whole _)
    cc0_scratch3 cc0_scratch4 cc0_scratch5 cc0_scratch6 cc0_scratch7 cc0_scratch8 cc0_scratch9

attribute [local irreducible] k0_t1_body in
theorem part7_eq : k0_part7 (F := F) i tokV (Memref.isWhole_whole _) tabV (Memref.isWhole_whole _) tlV (Memref.isWhole_whole _)
    outV (Memref.isWhole_whole _) idxV (Memref.isWhole_whole _) rowV (Memref.isWhole_whole _) tailV (Memref.isWhole_whole _)
    cc0_scratch3 cc0_scratch4 cc0_scratch5 cc0_scratch6 cc0_scratch7 cc0_scratch8 cc0_scratch9 = prog7 i := by
  rw [k0_part7_eq_skeleton]
  unfold k0_part7_skel prog7
  rfl

attribute [local irreducible] k0_t1_body in
theorem part8_eq (v2 : BitVec 32) : k0_part8 (F := F) i tokV (Memref.isWhole_whole _) tabV (Memref.isWhole_whole _) tlV (Memref.isWhole_whole _)
    outV (Memref.isWhole_whole _) idxV (Memref.isWhole_whole _) rowV (Memref.isWhole_whole _) tailV (Memref.isWhole_whole _)
    cc0_scratch3 cc0_scratch4 cc0_scratch5 cc0_scratch6 cc0_scratch7 cc0_scratch8 cc0_scratch9 v2 = prog8 i v2 := by
  rw [k0_part8_eq_skeleton]
  unfold k0_part8_skel prog8
  rfl

attribute [local irreducible] k0_t1_body in
theorem bodyOf_eq : bodyOf (F := F) i = progAll i := by
  unfold bodyOf
  rw [cc0_body_eq_skeleton]
  unfold cc0_body_skel progAll
  simp only [part7_eq, part8_eq]

end Programs

attribute [local irreducible] k0_t1_body Branch.Inv

variable (d : Dev nD) (i : grid0.Coords)
variable (tok : S819200.Idx → Elt F .i32) (tab : S100000x300.Idx → Elt F .f32) (tl : S100000x128.Idx → Elt F .f32)
variable (O : CellTallies nD τ sig (HIx 1)) (W : Waits sig (HIx 1))
variable (htok : ∀ n, (tokAt tok n).toNat < 100000)
variable (htl : ∀ x : S100000x128.Idx, (x 1).val < 44 → tl x = tabAt tab (x 0).val (256 + (x 1).val))

/-! ## What the task starts and ends with -/

/-- The slots of the three scratch buffers, at some contents. -/
def SlotsAny : sProp 𝕄 :=
  iprop((IdxAny (F := F) d (scOf i) (suOf i) 0 ∗ IdxAny (F := F) d (scOf i) (suOf i) 1 ∗ IdxAny (F := F) d (scOf i) (suOf i) 2)
    ∗ (RowAny (F := F) d (scOf i) (suOf i) 0 ∗ RowAny (F := F) d (scOf i) (suOf i) 1 ∗ RowAny (F := F) d (scOf i) (suOf i) 2)
    ∗ (TailAny (F := F) d (scOf i) (suOf i) 0 ∗ TailAny (F := F) d (scOf i) (suOf i) 1 ∗ TailAny (F := F) d (scOf i) (suOf i) 2))

/-- The task's seven semaphores, at zero. -/
def SemsZero : sProp 𝕄 :=
  iprop(semVal (V d (scOf i) (suOf i), .dma cc0_scratch3.sem) 0 ∗ semVal (V d (scOf i) (suOf i), .dma cc0_scratch4.sem) 0
    ∗ semVal (V d (scOf i) (suOf i), .dma cc0_scratch5.sem) 0 ∗ semVal (V d (scOf i) (suOf i), .dma cc0_scratch6.sem) 0
    ∗ semVal (V d (scOf i) (suOf i), .dma cc0_scratch7.sem) 0 ∗ semVal (V d (scOf i) (suOf i), .dma cc0_scratch8.sem) 0
    ∗ semVal (V d (scOf i) (suOf i), .dma cc0_scratch9.sem) 0)

/-- Before the main loop. -/
theorem inv_start : iprop(GatFly d (scOf i) (suOf i) tok tab (base i) 0 cc0_scratch4.sem 0 ∗ ColAny (F := F) d (scOf i) (suOf i) 0 256 300 ∗ semVal (V d (scOf i) (suOf i), .dma cc0_scratch7.sem) 0
      ∗ Transfers.Flight countersEmb (V d (scOf i) (suOf i)) (.dma cc0_scratch3.sem) ι₀ 2560 (IdxHas d (scOf i) (suOf i) tok (base i + 80) 1)
      ∗ RowAny (F := F) d (scOf i) (suOf i) 1 ∗ semVal (V d (scOf i) (suOf i), .dma cc0_scratch8.sem) 0 ∗ TailAny (F := F) d (scOf i) (suOf i) 1 ∗ semVal (V d (scOf i) (suOf i), .dma cc0_scratch5.sem) 0
      ∗ IdxAny (F := F) d (scOf i) (suOf i) 2
      ∗ RowAny (F := F) d (scOf i) (suOf i) 2 ∗ semVal (V d (scOf i) (suOf i), .dma cc0_scratch9.sem) 0 ∗ TailAny (F := F) d (scOf i) (suOf i) 2 ∗ semVal (V d (scOf i) (suOf i), .dma cc0_scratch6.sem) 0
      ∗ TokSh d (scOf i) (suOf i) tok ∗ TabSh d (scOf i) (suOf i) tab ∗ TlSh d (scOf i) (suOf i) tl ∗ OutAny (F := F) d (scOf i) (suOf i) (base i) (base i + 25600) ∗ Owe d (scOf i) (suOf i) O W)
    ⊢ Inv d i tok tab tl O W 0 := by
  rw [inv0 d i tok tab tl O W rfl]
  unfold InvP Inv3 GatS IdxS StS OutS
  simp only [gSem, sSem]
  rw [if_pos (by norm_num), if_pos (by norm_num), if_neg (by norm_num), if_neg (by norm_num)]
  iintro ⟨Hg, Hc, Hs0, Hi, Hr1, Hs1, Ht1, Hg1, Hi2, Hr2, Hs2, Ht2, Hg2, Htok, Htab, Htl, Ho, HO⟩
  isplitl [Hg Hc Hs0]
  · isplitl [Hg]; · iexact Hg
    isplitl [Hc]; · iexact Hc
    iexact Hs0
  isplitl [Hi]; · iexact Hi
  isplitl [Hr1 Hs1]
  · isplitl [Hr1]; · iexact Hr1
    iexact Hs1
  isplitl [Ht1]; · iexact Ht1
  isplitl [Hg1]; · iexact Hg1
  isplitl [Hi2]; · iexact Hi2
  isplitl [Hr2 Hs2]
  · isplitl [Hr2]; · iexact Hr2
    iexact Hs2
  isplitl [Ht2]; · iexact Ht2
  isplitl [Hg2]; · iexact Hg2
  isplitl [Htok]; · iexact Htok
  isplitl [Htab]; · iexact Htab
  isplitl [Htl]; · iexact Htl
  isplitr [Ho HO]
  · iapply (outHas_none d (scOf i) (suOf i) tok tab (base i)); iempintro
  isplitl [Ho]; · iexact Ho
  iexact HO

/-- After the main loop: the last three copies to the result are on their way. -/
theorem inv_end : Inv d i tok tab tl O W 320
    ⊢ iprop(Transfers.Flight countersEmb (V d (scOf i) (suOf i)) (.dma cc0_scratch9.sem) ι₀ 768000
          iprop(RowAny (F := F) d (scOf i) (suOf i) 2 ∗ OutHas d (scOf i) (suOf i) tok tab (base i + 80 * 317) (base i + 80 * 317 + 80))
      ∗ Transfers.Flight countersEmb (V d (scOf i) (suOf i)) (.dma cc0_scratch7.sem) ι₀ 768000
          iprop(RowAny (F := F) d (scOf i) (suOf i) 0 ∗ OutHas d (scOf i) (suOf i) tok tab (base i + 80 * 318) (base i + 80 * 318 + 80))
      ∗ Transfers.Flight countersEmb (V d (scOf i) (suOf i)) (.dma cc0_scratch8.sem) ι₀ 768000
          iprop(RowAny (F := F) d (scOf i) (suOf i) 1 ∗ OutHas d (scOf i) (suOf i) tok tab (base i + 80 * 319) (base i + 80 * 319 + 80))
      ∗ (IdxAny (F := F) d (scOf i) (suOf i) 0 ∗ IdxAny (F := F) d (scOf i) (suOf i) 1 ∗ IdxAny (F := F) d (scOf i) (suOf i) 2)
      ∗ (TailAny (F := F) d (scOf i) (suOf i) 0 ∗ TailAny (F := F) d (scOf i) (suOf i) 1 ∗ TailAny (F := F) d (scOf i) (suOf i) 2)
      ∗ semVal (V d (scOf i) (suOf i), .dma cc0_scratch3.sem) 0 ∗ semVal (V d (scOf i) (suOf i), .dma cc0_scratch4.sem) 0
      ∗ semVal (V d (scOf i) (suOf i), .dma cc0_scratch5.sem) 0 ∗ semVal (V d (scOf i) (suOf i), .dma cc0_scratch6.sem) 0
      ∗ OutHas d (scOf i) (suOf i) tok tab (base i) (base i + 80 * 317) ∗ Owe d (scOf i) (suOf i) O W) := by
  rw [inv2 d i tok tab tl O W rfl]
  unfold InvP Inv3 GatS IdxS OutS
  simp only [gSem, sSem]
  rw [if_neg (by norm_num), if_neg (by norm_num)]
  iintro ⟨⟨Hst2, Hg2, Hi2, Ht2⟩, ⟨Hi0, Hsi⟩, Hst0, Ht0, Hg0, Hi1, Hst1, Ht1, Hg1, Htok, Htab, Htl, Ho, -, HO⟩
  isplitl [Hst2]
  · iapply (Entails.of_eq (show StS d (scOf i) (suOf i) tok tab (base i) 2 320 cc0_scratch9.sem = _ from if_pos (by norm_num))) $$ Hst2
  isplitl [Hst0]
  · iapply (Entails.of_eq (show StS d (scOf i) (suOf i) tok tab (base i) 0 (320 + 1) cc0_scratch7.sem = _ from if_pos (by norm_num))) $$ Hst0
  isplitl [Hst1]
  · iapply (Entails.of_eq (show StS d (scOf i) (suOf i) tok tab (base i) 1 (320 + 2) cc0_scratch8.sem = _ from if_pos (by norm_num))) $$ Hst1
  isplitl [Hi0 Hi1 Hi2]
  · isplitl [Hi0]; · iexact Hi0
    isplitl [Hi1]; · iexact Hi1
    iexact Hi2
  isplitl [Ht0 Ht1 Ht2]
  · isplitl [Ht0]; · iexact Ht0
    isplitl [Ht1]; · iexact Ht1
    iexact Ht2
  isplitl [Hsi]; · iexact Hsi
  isplitl [Hg0]; · iexact Hg0
  isplitl [Hg1]; · iexact Hg1
  isplitl [Hg2]; · iexact Hg2
  isplitl [Ho]; · iexact Ho
  iexact HO

theorem outHas_next (b n : ℕ) : iprop(OutHas d (scOf i) (suOf i) tok tab b (b + 80 * n) ∗ OutHas d (scOf i) (suOf i) tok tab (b + 80 * n) (b + 80 * n + 80))
    ⊢ OutHas d (scOf i) (suOf i) tok tab b (b + 80 * (n + 1)) :=
  (outHas_join d (scOf i) (suOf i) tok tab (a := b) (b := b + 80 * n) (c := b + 80 * n + 80) (by omega) (by omega)).trans
    (Entails.of_eq (by rw [show b + 80 * n + 80 = b + 80 * (n + 1) by omega]))

/-- The last three chunks complete the tile's part of the result. -/
theorem outHas_last : iprop(OutHas d (scOf i) (suOf i) tok tab (base i) (base i + 80 * 317)
      ∗ OutHas d (scOf i) (suOf i) tok tab (base i + 80 * 317) (base i + 80 * 317 + 80)
      ∗ OutHas d (scOf i) (suOf i) tok tab (base i + 80 * 318) (base i + 80 * 318 + 80)
      ∗ OutHas d (scOf i) (suOf i) tok tab (base i + 80 * 319) (base i + 80 * 319 + 80))
    ⊢ OutHas d (scOf i) (suOf i) tok tab (base i) (base i + 25600) := by
  iintro ⟨H, H1, H2, H3⟩
  iapply (outHas_next d i tok tab (base i) 319)
  isplitr [H3]
  · iapply (outHas_next d i tok tab (base i) 318)
    isplitr [H2]
    · iapply (outHas_next d i tok tab (base i) 317)
      isplitl [H]; · iexact H
      iexact H1
    iexact H2
  iexact H3

/-! ## The task -/

include htok htl in
theorem wp_body :
    iprop(Transfers.MayWaits (V d (scOf i) (suOf i)) ι₀ O ∗ SlotsAny (F := F) d i ∗ SemsZero (F := F) d i
        ∗ TokSh d (scOf i) (suOf i) tok ∗ TabSh d (scOf i) (suOf i) tab ∗ TlSh d (scOf i) (suOf i) tl
        ∗ OutAny (F := F) d (scOf i) (suOf i) (base i) (base i + 25600) ∗ Owe d (scOf i) (suOf i) O W)
      ⊢ wp frame (wpE (defs₀ (F := F)) 𝒱₀ (V d (scOf i) (suOf i)) none) Set.univ (bodyOf (F := F) i)
        (fun _ => iprop(OutHas d (scOf i) (suOf i) tok tab (base i) (base i + 25600) ∗ SlotsAny (F := F) d i ∗ SemsZero (F := F) d i ∗ Owe d (scOf i) (suOf i) O W)) := by
  rw [bodyOf_eq]
  unfold progAll prog7 prog8 SlotsAny SemsZero
  simp only [Prog.bind_lift, Prog.bind_op, bind_assoc, pure_bind]
  iintro ⟨#Hmw, ⟨⟨Hi0, Hi1, Hi2⟩, ⟨Hr0, Hr1, Hr2⟩, ⟨Ht0, Ht1, Ht2⟩⟩, ⟨Hs3, Hs4, Hs5, Hs6, Hs7, Hs8, Hs9⟩, Htok, Htab, Htl, Ho, HO⟩
  iapply (wp_idxLoad d (scOf i) (suOf i) tok 0 (base i) (k0_off1 i 0#32) (k0_off1_eq i 0)) $$ [Htok Hi0 Hs3]
  · isplitl [Htok]; · iexact Htok
    isplitl [Hi0]; · iexact Hi0
    iexact Hs3
  iintro ⟨Htok, Hi0⟩
  iapply (wp_idxWait d (scOf i) (suOf i) tok O W 0 (base i)) $$ [Hi0 HO]
  · isplitl [Hi0]; · iexact Hi0
    isplitl [HO]; · iexact HO
    iexact Hmw
  iintro ⟨Hi0, Hs3, HO⟩
  ihave Hr0 := (rowAny_split d (scOf i) (suOf i) 0) $$ Hr0
  icases Hr0 with ⟨Ha, Hb, Hc⟩
  iapply (wp_gatherA d (scOf i) (suOf i) tok tab tl htok (base i) lt0) $$ [Htab Htl Hi0 Ha Hb Ht0 Hs4]
  · isplitl [Htab]; · iexact Htab
    isplitl [Htl]; · iexact Htl
    isplitl [Hi0]; · iexact Hi0
    isplitl [Ha]; · iexact Ha
    isplitl [Hb]; · iexact Hb
    isplitl [Ht0]; · iexact Ht0
    iexact Hs4
  iintro ⟨Htab, Htl, Hg⟩
  iapply (wp_gatherB d (scOf i) (suOf i) tok tab tl (base i) lt0) $$ Hg
  iintro Hg
  iapply (wp_gatherC d (scOf i) (suOf i) tok tab tl htl (base i) lt0) $$ Hg
  iintro Hg
  iapply (wp_idxLoad d (scOf i) (suOf i) tok 1 (base i + 80) (k0_off1 i 80#32) (k0_off1_eq i 1)) $$ [Htok Hi1 Hs3]
  · isplitl [Htok]; · iexact Htok
    isplitl [Hi1]; · iexact Hi1
    iexact Hs3
  iintro ⟨Htok, Hi1⟩
  ihave HI := (inv_start d i tok tab tl O W) $$ [Hg Hc Hs7 Hi1 Hr1 Hs8 Ht1 Hs5 Hi2 Hr2 Hs9 Ht2 Hs6 Htok Htab Htl Ho HO]
  · isplitl [Hg]; · iexact Hg
    isplitl [Hc]; · iexact Hc
    isplitl [Hs7]; · iexact Hs7
    isplitl [Hi1]; · iexact Hi1
    isplitl [Hr1]; · iexact Hr1
    isplitl [Hs8]; · iexact Hs8
    isplitl [Ht1]; · iexact Ht1
    isplitl [Hs5]; · iexact Hs5
    isplitl [Hi2]; · iexact Hi2
    isplitl [Hr2]; · iexact Hr2
    isplitl [Hs9]; · iexact Hs9
    isplitl [Ht2]; · iexact Ht2
    isplitl [Hs6]; · iexact Hs6
    isplitl [Htok]; · iexact Htok
    isplitl [Htab]; · iexact Htab
    isplitl [Htl]; · iexact Htl
    isplitl [Ho]; · iexact Ho
    iexact HO
  iapply (wp_loop320 d i O k0_t1_loop trips1 (body1 (F := F) i (first i)) (Inv d i tok tab tl O W) (trip d i tok tab tl O W htok htl (first i))) $$ [HI]
  · isplitr; · iexact Hmw
    iexact HI
  iintro HI
  ihave HI := (inv_end d i tok tab tl O W) $$ HI
  icases HI with ⟨Hf2, Hf0, Hf1, Hi, Ht, Hs3, Hs4, Hs5, Hs6, Ho, HO⟩
  iapply (wp_storeWait d (scOf i) (suOf i) tok tab O W 2 (base i + 80 * 317)) $$ [Hf2 HO]
  · isplitl [Hf2]; · iexact Hf2
    isplitl [HO]; · iexact HO
    iexact Hmw
  iintro ⟨Hr2, Ho2, Hs9, HO⟩
  iapply (wp_storeWait d (scOf i) (suOf i) tok tab O W 0 (base i + 80 * 318)) $$ [Hf0 HO]
  · isplitl [Hf0]; · iexact Hf0
    isplitl [HO]; · iexact HO
    iexact Hmw
  iintro ⟨Hr0, Ho0, Hs7, HO⟩
  iapply (wp_storeWait d (scOf i) (suOf i) tok tab O W 1 (base i + 80 * 319)) $$ [Hf1 HO]
  · isplitl [Hf1]; · iexact Hf1
    isplitl [HO]; · iexact HO
    iexact Hmw
  iintro ⟨Hr1, Ho1, Hs8, HO⟩
  ihave Ho := (outHas_last d i tok tab) $$ [Ho Ho2 Ho0 Ho1]
  · isplitl [Ho]; · iexact Ho
    isplitl [Ho2]; · iexact Ho2
    isplitl [Ho0]; · iexact Ho0
    iexact Ho1
  rw [wp_pure]
  imodintro
  isplitl [Ho]; · iexact Ho
  isplitl [Hi Hr0 Hr1 Hr2 Ht]
  · isplitl [Hi]; · iexact Hi
    isplitl [Hr0 Hr1 Hr2]
    · isplitl [Hr0]; · iexact Hr0
      isplitl [Hr1]; · iexact Hr1
      iexact Hr2
    iexact Ht
  isplitl [Hs3 Hs4 Hs5 Hs6 Hs7 Hs8 Hs9]
  · isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hs9
  iexact HO

end Cert.Proof.Tile

end
-- ==== Proof.Launch.lean ====
/- The kernel's launch: what each of the 32 tiles is handed and hands back, its task from what it owns, and the split of
   the arrays among the tiles. -/
module

public import proofs.«01_k».proof.Proof.Tile
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit

@[expose] public section

noncomputable section

namespace Cert.Proof.Launch

open Cert.KernelIdeal Cert.KernelIdeal.Gen Cert.Proof.Slots Cert.Proof.State Cert.Proof.Step Cert.Proof.Branch Cert.Proof.Tile
open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL

/-! ## A buffer in three parts -/

theorem three_split {ℓ : Loc nD τ sig} {A B C : Finset (Idx ℓ)} (hab : Disjoint A B) (hc : Disjoint (A ∪ B) C) (hu : A ∪ B ∪ C = Finset.univ) :
    (iprop(∃ f : Buf (Elt F) ℓ, ℓ ↦{fullShare} f) : sProp 𝕄)
      ⊢ iprop((∃ f : Buf (Elt F) ℓ, ℓ ↦[A]{fullShare} f) ∗ (∃ f : Buf (Elt F) ℓ, ℓ ↦[B]{fullShare} f) ∗ ∃ f : Buf (Elt F) ℓ, ℓ ↦[C]{fullShare} f) := by
  rw [← hu]
  iintro ⟨%f, H⟩
  ihave H := (pointsTo_union (ℓ := ℓ) hc).1 $$ H
  icases H with ⟨H, Hc⟩
  ihave H := (pointsTo_union (ℓ := ℓ) hab).1 $$ H
  icases H with ⟨Ha, Hb⟩
  isplitl [Ha]; · iexists f; iexact Ha
  isplitl [Hb]; · iexists f; iexact Hb
  iexists f; iexact Hc

theorem three_join {ℓ : Loc nD τ sig} {A B C : Finset (Idx ℓ)} (hab : Disjoint A B) (hc : Disjoint (A ∪ B) C) (hu : A ∪ B ∪ C = Finset.univ) :
    iprop((∃ f : Buf (Elt F) ℓ, ℓ ↦[A]{fullShare} f) ∗ (∃ f : Buf (Elt F) ℓ, ℓ ↦[B]{fullShare} f) ∗ ∃ f : Buf (Elt F) ℓ, ℓ ↦[C]{fullShare} f)
      ⊢ (iprop(∃ f : Buf (Elt F) ℓ, ℓ ↦{fullShare} f) : sProp 𝕄) := by
  rw [← hu]
  iintro ⟨⟨%f, Ha⟩, ⟨%g, Hb⟩, ⟨%h, Hc⟩⟩
  ihave H := (pointsTo_join (ℓ := ℓ) hab) $$ [Ha Hb]
  · isplitl [Ha]; · iexact Ha
    iexact Hb
  ihave H := (pointsTo_join (ℓ := ℓ) hc) $$ [H Hc]
  · isplitl [H]; · iexact H
    iexact Hc
  iexists _; iexact H

/-- The elements of an array of three slots, slot by slot. -/
theorem slots_disj {s : Shape} (φ : s.Idx → ℕ) : Disjoint (Finset.univ.filter fun x => φ x = 0) (Finset.univ.filter fun x => φ x = 1) := by
  rw [Finset.disjoint_left]
  intro x hx hy
  have h1 := (Finset.mem_filter.mp hx).2
  have h2 := (Finset.mem_filter.mp hy).2
  omega
theorem slots_disj' {s : Shape} (φ : s.Idx → ℕ) :
    Disjoint ((Finset.univ.filter fun x => φ x = 0) ∪ (Finset.univ.filter fun x => φ x = 1)) (Finset.univ.filter fun x => φ x = 2) := by
  rw [Finset.disjoint_left]
  intro x hx hy
  have h2 := (Finset.mem_filter.mp hy).2
  rcases Finset.mem_union.mp hx with hx | hx
  · have h1 := (Finset.mem_filter.mp hx).2
    omega
  · have h1 := (Finset.mem_filter.mp hx).2
    omega
theorem slots_cover {s : Shape} (φ : s.Idx → ℕ) (h : ∀ x, φ x < 3) :
    (Finset.univ.filter fun x => φ x = 0) ∪ (Finset.univ.filter fun x => φ x = 1) ∪ (Finset.univ.filter fun x => φ x = 2) = Finset.univ := by
  ext x
  have := h x
  simp only [Finset.mem_union, Finset.mem_filter, Finset.mem_univ, true_and, iff_true]
  omega

variable [FloatOps F]

/-! ## What a tile owns -/

section Own
variable (d : Dev nD) (i : grid0.Coords)

/-- The three scratch buffers. -/
def refs3 : Finset (Ref sig .scVector) := {cc0_scratch0, cc0_scratch1, cc0_scratch2}
/-- The seven semaphores. -/
def sems7 : Finset (SemLoc sig) :=
  {.dma cc0_scratch3.sem, .dma cc0_scratch4.sem, .dma cc0_scratch5.sem, .dma cc0_scratch6.sem, .dma cc0_scratch7.sem, .dma cc0_scratch8.sem, .dma cc0_scratch9.sem}

/-- A reference as the tile's buffer. -/
def refEmb : Ref sig .scVector ↪ DevRef τ sig := ⟨(Proc.scVector (scOf i) (suOf i)).devRef, Proc.devRef_injective _⟩
/-- A semaphore as the tile's cell. -/
def semEmb : SemLoc sig ↪ GSem nD τ sig := ⟨fun s => (V d (scOf i) (suOf i), s), Prod.mk_right_injective _⟩

theorem refs3_sub : refs3.map (refEmb i) ⊆ ownRefs (τ := τ) (.scVector (scOf i) (suOf i)) := by
  intro b hb
  obtain ⟨r, hr, rfl⟩ := Finset.mem_map.mp hb
  simp only [refs3, Finset.mem_insert, Finset.mem_singleton] at hr
  rcases hr with rfl | rfl | rfl <;> exact SparseCore.Cfg.mem_ownRefs_of_owner rfl
theorem sems7_sub : sems7.map (semEmb d i) ⊆ ownCells (V d (scOf i) (suOf i)) := by
  intro g hg
  obtain ⟨s, hs, rfl⟩ := Finset.mem_map.mp hg
  have : ∀ s ∈ sems7, s.isScoped .scVector = true := by decide
  exact mem_ownCells.mpr ⟨rfl, this s hs⟩

/-- The rest of the tile's buffers. -/
def restBufs : sProp 𝕄 := bigSep (ownRefs (τ := τ) (.scVector (scOf i) (suOf i)) \ refs3.map (refEmb i)) fun b => iprop(∃ f, ((d, b) : Loc nD τ sig) ↦{fullShare} f)
/-- The rest of its semaphores. -/
def restSems : sProp 𝕄 := bigSep (ownCells (V d (scOf i) (suOf i)) \ sems7.map (semEmb d i)) fun g => semVal g 0

theorem ownBufs_eq : (ownBufs (V d (scOf i) (suOf i)) : sProp 𝕄)
    = iprop(((∃ f, (V d (scOf i) (suOf i)).loc cc0_scratch0 ↦{fullShare} f) ∗ (∃ f, (V d (scOf i) (suOf i)).loc cc0_scratch1 ↦{fullShare} f)
        ∗ (∃ f, (V d (scOf i) (suOf i)).loc cc0_scratch2 ↦{fullShare} f)) ∗ restBufs (F := F) d i) := by
  unfold SparseCore.Cfg.ownBufs restBufs
  refine (SparseCore.bigSep_sdiff_split' (refs3_sub i)).trans (congrArg (fun X => iprop(X ∗ _)) ?_)
  rw [bigSep_map]
  unfold refs3
  rw [SparseCore.bigSep_insert' (by decide), SparseCore.bigSep_insert' (by decide), bigSep_singleton]
  rfl

theorem ownSems_eq : (ownSems0 (V d (scOf i) (suOf i)) : sProp 𝕄) = iprop(SemsZero (F := F) d i ∗ restSems (F := F) d i) := by
  unfold SparseCore.Cfg.ownSems0 restSems
  refine (SparseCore.bigSep_sdiff_split' (sems7_sub d i)).trans (congrArg (fun X => iprop(X ∗ _)) ?_)
  rw [bigSep_map]
  unfold sems7 SemsZero
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  rfl

theorem slots_split : iprop((∃ f, (V d (scOf i) (suOf i)).loc cc0_scratch0 ↦{fullShare} f) ∗ (∃ f, (V d (scOf i) (suOf i)).loc cc0_scratch1 ↦{fullShare} f)
      ∗ (∃ f, (V d (scOf i) (suOf i)).loc cc0_scratch2 ↦{fullShare} f)) ⊢ (SlotsAny (F := F) d i : sProp 𝕄) := by
  unfold SlotsAny
  exact sep_mono (three_split (slots_disj (s := S3x80) fun x => (x 0).val) (slots_disj' _) (slots_cover _ fun x => (x 0).isLt))
    (sep_mono (three_split (slots_disj (s := S3x80x300) fun x => (x 0).val) (slots_disj' _) (slots_cover _ fun x => (x 0).isLt))
      (three_split (slots_disj (s := S3x80x128) fun x => (x 0).val) (slots_disj' _) (slots_cover _ fun x => (x 0).isLt)))

theorem idx_join : (iprop(IdxAny (F := F) d (scOf i) (suOf i) 0 ∗ IdxAny (F := F) d (scOf i) (suOf i) 1 ∗ IdxAny (F := F) d (scOf i) (suOf i) 2) : sProp 𝕄)
    ⊢ iprop(∃ f, (V d (scOf i) (suOf i)).loc cc0_scratch0 ↦{fullShare} f) :=
  three_join (ℓ := (V d (scOf i) (suOf i)).loc cc0_scratch0) (A := idxSet 0) (B := idxSet 1) (C := idxSet 2)
    (slots_disj (s := S3x80) fun x => (x 0).val) (slots_disj' (s := S3x80) fun x => (x 0).val) (slots_cover (s := S3x80) (fun x => (x 0).val) fun x => (x 0).isLt)
theorem row_join : (iprop(RowAny (F := F) d (scOf i) (suOf i) 0 ∗ RowAny (F := F) d (scOf i) (suOf i) 1 ∗ RowAny (F := F) d (scOf i) (suOf i) 2) : sProp 𝕄)
    ⊢ iprop(∃ f, (V d (scOf i) (suOf i)).loc cc0_scratch1 ↦{fullShare} f) :=
  three_join (ℓ := (V d (scOf i) (suOf i)).loc cc0_scratch1) (A := rowSet 0) (B := rowSet 1) (C := rowSet 2)
    (slots_disj (s := S3x80x300) fun x => (x 0).val) (slots_disj' (s := S3x80x300) fun x => (x 0).val) (slots_cover (s := S3x80x300) (fun x => (x 0).val) fun x => (x 0).isLt)
theorem tail_join : (iprop(TailAny (F := F) d (scOf i) (suOf i) 0 ∗ TailAny (F := F) d (scOf i) (suOf i) 1 ∗ TailAny (F := F) d (scOf i) (suOf i) 2) : sProp 𝕄)
    ⊢ iprop(∃ f, (V d (scOf i) (suOf i)).loc cc0_scratch2 ↦{fullShare} f) :=
  three_join (ℓ := (V d (scOf i) (suOf i)).loc cc0_scratch2) (A := tailSet 0) (B := tailSet 1) (C := tailSet 2)
    (slots_disj (s := S3x80x128) fun x => (x 0).val) (slots_disj' (s := S3x80x128) fun x => (x 0).val) (slots_cover (s := S3x80x128) (fun x => (x 0).val) fun x => (x 0).isLt)
theorem slots_join : (SlotsAny (F := F) d i : sProp 𝕄)
    ⊢ iprop((∃ f, (V d (scOf i) (suOf i)).loc cc0_scratch0 ↦{fullShare} f) ∗ (∃ f, (V d (scOf i) (suOf i)).loc cc0_scratch1 ↦{fullShare} f)
      ∗ (∃ f, (V d (scOf i) (suOf i)).loc cc0_scratch2 ↦{fullShare} f)) := by
  unfold SlotsAny
  iintro ⟨Hi, Hr, Ht⟩
  ihave Hi := (idx_join d i) $$ Hi
  ihave Hr := (row_join d i) $$ Hr
  ihave Ht := (tail_join d i) $$ Ht
  isplitl [Hi]; · iexact Hi
  isplitl [Hr]; · iexact Hr
  iexact Ht

end Own

/-! ## What the launch hands each tile -/

variable (tok : Dev nD → S819200.Idx → Elt F .i32) (tab : Dev nD → S100000x300.Idx → Elt F .f32) (tl : Dev nD → S100000x128.Idx → Elt F .f32)

/-- The tile's coordinates from its SparseCore and subcore. -/
def coordsV (c : Fin (grid0.bound 0)) (s : Fin (grid0.bound 1)) : grid0.Coords :=
  fun | 0 => c | 1 => s | ⟨_ + 2, h⟩ => absurd h (Nat.not_lt.2 (Nat.le_add_left _ _))

/-- What the tile `i` is handed: a share of the tokens, of the table and of the tail table, and its rows of the result
    array. -/
def Give (d : Dev nD) (i : grid0.Coords) : sProp 𝕄 :=
  iprop(TokSh d (scOf i) (suOf i) (tok d) ∗ TabSh d (scOf i) (suOf i) (tab d) ∗ TlSh d (scOf i) (suOf i) (tl d)
    ∗ OutAny (F := F) d (scOf i) (suOf i) (base i) (base i + 25600))
/-- What it hands back: those rows at the result. -/
def Back (d : Dev nD) (i : grid0.Coords) : sProp 𝕄 := OutHas d (scOf i) (suOf i) (tok d) (tab d) (base i) (base i + 25600)

instance give_storable (d : Dev nD) (i : grid0.Coords) : BI.Storable (upEmb : UEmb _ 𝕄) (Give tok tab tl d i) := by
  unfold Give TokSh TabSh TlSh OutAny; infer_instance
instance back_storable (d : Dev nD) (i : grid0.Coords) : BI.Storable (upEmb : UEmb _ 𝕄) (Back tok tab d i) := by
  unfold Back OutHas; infer_instance

/-- The one call carries every tile's part out and back; a SparseCore its sixteen tiles'. -/
def P : (K (F := F)).Pay (nD := nD) (Val := Elt F) (Name := ℕ) (U := UU) where
  st := fun q d c => match q with | 0 => bigSep Finset.univ fun s : Fin (grid0.bound 1) => Give tok tab tl d (coordsV c s)
  dn := fun q d c => match q with | 0 => bigSep Finset.univ fun s : Fin (grid0.bound 1) => Back tok tab d (coordsV c s)
  go := fun q d c s => match q with | 0 => Give tok tab tl d (coordsV c s)
  td := fun q d c s => match q with | 0 => Back tok tab d (coordsV c s)
  x := fun _ _ => iprop(emp)

instance P_storable : (P tok tab tl).IsStorable where
  st q d c := match q with
    | 0 => (inferInstance : BI.Storable (upEmb : UEmb _ 𝕄) (bigSep Finset.univ fun s : Fin (grid0.bound 1) => Give tok tab tl d (coordsV c s)))
  dn q d c := match q with
    | 0 => (inferInstance : BI.Storable (upEmb : UEmb _ 𝕄) (bigSep Finset.univ fun s : Fin (grid0.bound 1) => Back tok tab d (coordsV c s)))
  go q d c s := match q with | 0 => give_storable tok tab tl d (coordsV c s)
  td q d c s := match q with | 0 => back_storable tok tab d (coordsV c s)

/-! ## The task -/

theorem tile_body (hF : (K (F := F)).Facts) (htok : ∀ d n, (tokAt (tok d) n).toNat < 100000)
    (htl : ∀ d, ∀ x : S100000x128.Idx, (x 1).val < 44 → tl d x = tabAt (tab d) (x 0).val (256 + (x 1).val))
    (d : Dev nD) (i : grid0.Coords) (O : CellTallies nD τ sig (HIx 1)) (W : Waits sig (HIx 1)) (hO : ∀ g, O g none = 0) :
    iprop(levAts (K (F := F)).L (K (F := F)).lev ∗ emp ∗ Give tok tab tl d i
        ∗ scopedBufs (V d (scOf i) (suOf i)) ∗ scopedSems0 (V d (scOf i) (suOf i)) ∗ owes (V d (scOf i) (suOf i)) O W)
      ⊢ wp frame (wpE (defs₀ (F := F)) 𝒱₀ (V d (scOf i) (suOf i)) none) Set.univ (bodyOf (F := F) i)
          fun _ => iprop(Back tok tab d i ∗ scopedBufs (V d (scOf i) (suOf i)) ∗ scopedSems0 (V d (scOf i) (suOf i))
            ∗ ∃ W', ⌜∀ p ∈ W', p ∈ W ∨ p.2 = none⌝ ∗ owes (V d (scOf i) (suOf i)) O W') := by
  rw [(K (F := F)).scopedBufs_V hF d (scOf i) (suOf i), SparseCore.Cfg.scopedSems0_V (Val := Elt F) d (scOf i) (suOf i), ownSems_eq, ownBufs_eq]
  unfold Give
  iintro ⟨#Hlv, -, ⟨Htok, Htab, Htl, Ho⟩, ⟨Hb, Hbufs⟩, ⟨Hs, Hsems⟩, HO⟩
  ihave #Hmw := (show levAts (K (F := F)).L (K (F := F)).lev ⊢ Transfers.MayWaits (V d (scOf i) (suOf i)) ι₀ O from
    (K (F := F)).mayWaits_none (thr := V d (scOf i) (suOf i)) hO) $$ Hlv
  ihave Hb := (slots_split d i) $$ Hb
  iapply wp_wand_r
  isplitl [Htok Htab Htl Ho Hb Hs HO]
  · iapply (wp_body d i (tok d) (tab d) (tl d) O W (htok d) (htl d))
    isplitr; · iexact Hmw
    isplitl [Hb]; · iexact Hb
    isplitl [Hs]; · iexact Hs
    isplitl [Htok]; · iexact Htok
    isplitl [Htab]; · iexact Htab
    isplitl [Htl]; · iexact Htl
    isplitl [Ho]; · iexact Ho
    unfold Owe
    iexists W; isplitr
    · ipureintro; exact fun p hp => .inl hp
    iexact HO
  iintro %_ ⟨Ho, Hb, Hs, HO⟩
  ihave Hb := (slots_join d i) $$ Hb
  isplitl [Ho]; · unfold Back; iexact Ho
  isplitl [Hb Hbufs]
  · isplitl [Hb]; · iexact Hb
    iexact Hbufs
  isplitl [Hs Hsems]
  · isplitl [Hs]; · iexact Hs
    iexact Hsems
  unfold Owe
  iexact HO

/-! ## The obligation -/

theorem defs₀_vector (c : Fin τ.nSC) (s : Fin τ.nSub) :
    defs₀ (F := F) (.scVector c s) 0 ()
      = SparseCore.onTile hcore0 hsub0 (fun c s => cc0_body (F := F) (coordsV c s) tokV (Memref.isWhole_whole _) tabV (Memref.isWhole_whole _) tlV (Memref.isWhole_whole _)
          outV (Memref.isWhole_whole _) idxV (Memref.isWhole_whole _) rowV (Memref.isWhole_whole _) tailV (Memref.isWhole_whole _)
          cc0_scratch3 cc0_scratch4 cc0_scratch5 cc0_scratch6 cc0_scratch7 cc0_scratch8 cc0_scratch9) ⟨⟩ c s := rfl

omit [FloatOps F] in
theorem obl_post {thr : Thread nD τ} {A B C : sProp (MT nD τ sig (HIx 1) (Elt F) ℕ UU ℕ)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (htok : ∀ d n, (tokAt (tok d) n).toNat < 100000)
    (htl : ∀ d, ∀ x : S100000x128.Idx, (x 1).val < 44 → tl d x = tabAt (tab d) (x 0).val (256 + (x 1).val)) :
    (K (F := F)).TileObl (D (F := F)) 𝒱 (P tok tab tl) v₀ 0 := by
  intro d c s O W hO _ _
  simp only [show (P tok tab tl).ox = fun _ _ => 0 from rfl, add_zero]
  have hci : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tok tab tl hF htok htl d (coordsV ⟨_, hci.1⟩ ⟨_, hci.2⟩) O W hO).trans (wp_mono frame _ _ fun _ => obl_post)

/-- A SparseCore's part is its tiles'. -/
theorem vecSplit : (K (F := F)).VecSplit' (P tok tab tl) 0 := by
  intro d c
  show (bigSep Finset.univ fun s : Fin (grid0.bound 1) => Give tok tab tl d (coordsV c s)) ⊢ |={Set.univ}=> iprop(
      (bigSep Finset.univ fun s : Fin (grid0.bound 1) => Give tok tab tl d (coordsV c s))
      ∗ ((bigSep Finset.univ fun s : Fin (grid0.bound 1) => Back tok tab d (coordsV c s))
          -∗ bigSep Finset.univ fun s : Fin (grid0.bound 1) => Back tok tab d (coordsV c s)))
  iintro H; imodintro
  isplitl [H]; · iexact H
  iintro H
  iexact H

end Cert.Proof.Launch

end
-- ==== Proof.Host.lean ====
/- @main: the host operations around the call, the arrays split among the tiles and joined again, and the program's run:
   the result array holds, for every token, the row of the table that it names. -/
module

public import proofs.«01_k».proof.Proof.Launch

@[expose] public section

noncomputable section

namespace Cert.Proof.Host

open Cert.KernelIdeal Cert.KernelIdeal.Gen Cert.Proof.Slots Cert.Proof.State Cert.Proof.Step Cert.Proof.Branch Cert.Proof.Tile Cert.Proof.Launch
open Idealize.ShloMosaic
open Idealize.ShloMosaic.ValueIdx
open Idealize.ShloMosaic.StableHlo (held wp_hlo_within)
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The arrays among the tiles -/

/-- The tiles. -/
abbrev Tiles : Type := Fin (grid0.bound 0) × Fin (grid0.bound 1)
/-- A tile's rows of the result array. -/
def rowsOf (p : Tiles) : Finset S819200x300.Idx := outSet (base (coordsV p.1 p.2)) (base (coordsV p.1 p.2) + 25600)

theorem base_tile (p : Tiles) : base (coordsV p.1 p.2) = 51200 * p.2.val + 25600 * p.1.val := rfl

theorem rows_disj : ∀ p ∈ (Finset.univ : Finset Tiles), ∀ p' ∈ (Finset.univ : Finset Tiles), p ≠ p' → Disjoint (rowsOf p) (rowsOf p') := by
  intro p _ p' _ hne
  rw [Finset.disjoint_left]
  intro x hx hx'
  have h := (Finset.mem_filter.mp hx).2
  have h' := (Finset.mem_filter.mp hx').2
  rw [base_tile] at h h'
  have h1 : p.1.val < 2 := p.1.isLt
  have h1' : p'.1.val < 2 := p'.1.isLt
  exact hne (Prod.ext (Fin.ext (by omega)) (Fin.ext (by omega)))

theorem rows_cover : (Finset.univ : Finset Tiles).biUnion rowsOf = Finset.univ := by
  ext x
  simp only [Finset.mem_biUnion, Finset.mem_univ, true_and, iff_true]
  have hx : (x 0).val < 819200 := (x 0).isLt
  refine ⟨⟨⟨(x 0).val % 51200 / 25600, ?_⟩, ⟨(x 0).val / 51200, ?_⟩⟩, ?_⟩
  · show _ < 2; omega
  · show _ < 16; omega
  · refine Finset.mem_filter.mpr ⟨Finset.mem_univ _, ?_⟩
    rw [base_tile]
    dsimp only
    omega

theorem out_split {ℓ : Loc nD τ sig} (K : Tiles → Finset (Idx ℓ)) (hd : ∀ p ∈ (Finset.univ : Finset Tiles), ∀ p' ∈ (Finset.univ : Finset Tiles), p ≠ p' → Disjoint (K p) (K p'))
    (hc : (Finset.univ : Finset Tiles).biUnion K = Finset.univ) (f : Buf (Elt F) ℓ) :
    (ℓ ↦{fullShare} f : sProp 𝕄) = bigSep Finset.univ fun p : Tiles => ℓ ↦[K p]{fullShare} f := by
  rw [← pointsTo_biUnion Finset.univ (ℓ := ℓ) K hd, hc]; try rfl

theorem some_contents {ℓ : Loc nD τ sig} (I : Finset (Idx ℓ)) (f : Buf (Elt F) ℓ) : (ℓ ↦[I]{fullShare} f : sProp 𝕄) ⊢ iprop(∃ f, ℓ ↦[I]{fullShare} f) := by
  iintro H
  iexists f; iexact H
theorem some_share {ℓ : Loc nD τ sig} (q : PosShare TreeShare) (f : Buf (Elt F) ℓ) : (ℓ ↦{q} f : sProp 𝕄) ⊢ iprop(∃ q, ℓ ↦{q} f) := by
  iintro H
  iexists q; iexact H

theorem shares {ℓ : Loc nD τ sig} (q : PosShare TreeShare) (f : Buf (Elt F) ℓ) :
    (ℓ ↦{q} f : sProp 𝕄) ⊢ bigSep Finset.univ fun _ : Tiles => iprop(∃ q, ℓ ↦{q} f) := by
  rw [bigSep_univ_prod, pointsTo_piecesOf Finset.univ f (show 0 < grid0.bound 0 by decide) q]
  refine bigSep_mono fun c _ => ?_
  rw [pointsTo_piecesOf Finset.univ f (show 0 < grid0.bound 1 by decide)]
  exact bigSep_mono fun s _ => some_share _ f

section Arrays
variable (tok : Dev nD → S819200.Idx → Elt F .i32) (tab : Dev nD → S100000x300.Idx → Elt F .f32) (tl : Dev nD → S100000x128.Idx → Elt F .f32)

theorem give_all (d : Dev nD) (q : PosShare TreeShare) (o : S819200x300.Idx → Elt F .f32) :
    iprop(((SparseCore.T d).loc main_v2 ↦{fullShare} tok d) ∗ ((SparseCore.T d).loc main_arg1 ↦{q} tab d) ∗ ((SparseCore.T d).loc main_v1 ↦{fullShare} tl d) ∗ (SparseCore.T d).loc main_v3 ↦{fullShare} o)
      ⊢ (bigSep Finset.univ fun c : Fin ((K (F := F)).nCore 0) => (P tok tab tl).st 0 d c : sProp 𝕄) := by
  have e : (bigSep Finset.univ fun c : Fin ((K (F := F)).nCore 0) => (P tok tab tl).st 0 d c : sProp 𝕄)
      = bigSep Finset.univ fun p : Tiles => Give tok tab tl d (coordsV p.1 p.2) :=
    (bigSep_univ_prod (fun p : Tiles => Give tok tab tl d (coordsV p.1 p.2))).symm
  rw [e]
  have e2 : (bigSep Finset.univ fun p : Tiles => Give tok tab tl d (coordsV p.1 p.2) : sProp 𝕄)
      = iprop((bigSep Finset.univ fun p : Tiles => TokSh d (scOf (coordsV p.1 p.2)) (suOf (coordsV p.1 p.2)) (tok d))
        ∗ (bigSep Finset.univ fun p : Tiles => TabSh d (scOf (coordsV p.1 p.2)) (suOf (coordsV p.1 p.2)) (tab d))
        ∗ (bigSep Finset.univ fun p : Tiles => TlSh d (scOf (coordsV p.1 p.2)) (suOf (coordsV p.1 p.2)) (tl d))
        ∗ bigSep Finset.univ fun p : Tiles => OutAny (F := F) d (scOf (coordsV p.1 p.2)) (suOf (coordsV p.1 p.2)) (base (coordsV p.1 p.2)) (base (coordsV p.1 p.2) + 25600)) := by
    rw [← bigSep_sep', ← bigSep_sep', ← bigSep_sep']
    rfl
  rw [e2]
  iintro ⟨Ht, Hb, Hl, Ho⟩
  isplitl [Ht]; · iapply (shares (F := F) (ℓ := (SparseCore.T d).loc main_v2) fullShare (tok d)); iexact Ht
  isplitl [Hb]; · iapply (shares (F := F) (ℓ := (SparseCore.T d).loc main_arg1) q (tab d)); iexact Hb
  isplitl [Hl]; · iapply (shares (F := F) (ℓ := (SparseCore.T d).loc main_v1) fullShare (tl d)); iexact Hl
  ihave Ho := (Entails.of_eq (out_split (F := F) (ℓ := (SparseCore.T d).loc main_v3) rowsOf rows_disj rows_cover o)) $$ Ho
  have hm : (bigSep Finset.univ fun p : Tiles => (SparseCore.T d).loc main_v3 ↦[rowsOf p]{fullShare} o : sProp 𝕄)
      ⊢ bigSep Finset.univ fun p : Tiles => OutAny (F := F) d (scOf (coordsV p.1 p.2)) (suOf (coordsV p.1 p.2)) (base (coordsV p.1 p.2)) (base (coordsV p.1 p.2) + 25600) := by
    exact bigSep_mono fun p _ => some_contents (F := F) (ℓ := (SparseCore.T d).loc main_v3) (rowsOf p) o
  iapply hm
  iexact Ho

theorem back_all (d : Dev nD) :
    (bigSep Finset.univ fun c : Fin ((K (F := F)).nCore 0) => (P tok tab tl).dn 0 d c : sProp 𝕄) = iprop((SparseCore.T d).loc main_v3 ↦{fullShare} (res (tok d) (tab d) : S819200x300.Idx → Elt F .f32)) := by
  have e : (bigSep Finset.univ fun c : Fin ((K (F := F)).nCore 0) => (P tok tab tl).dn 0 d c : sProp 𝕄)
      = bigSep Finset.univ fun p : Tiles => Back tok tab d (coordsV p.1 p.2) :=
    (bigSep_univ_prod (fun p : Tiles => Back tok tab d (coordsV p.1 p.2))).symm
  rw [e]
  exact (out_split (F := F) (ℓ := (SparseCore.T d).loc main_v3) rowsOf rows_disj rows_cover (res (tok d) (tab d))).symm

end Arrays

/-! ## The values the host computes -/

variable (m : (ℓ : Loc nD τ sig) → Buf (Elt F) ℓ) (ρ : Dev nD → PrngReg)

/-- The tokens as the kernel is handed them, in a line. -/
def tokOf (d : Dev nD) : S819200.Idx → Elt F .i32 := shapeCast S819200 (m ((SparseCore.T d).loc main_arg0) : S4096x200.Idx → Elt F .i32) shapeCasts_S4096x200_S819200
/-- The table. -/
def tabOf (d : Dev nD) : S100000x300.Idx → Elt F .f32 := m ((SparseCore.T d).loc main_arg1)
/-- The table's last 44 columns, the rest filled up. -/
def tlOf (d : Dev nD) : S100000x128.Idx → Elt F .f32 :=
  pad S100000x128 ![0, 0] ![0, 84] ![0, 0] (extractStridedSlice S100000x44 ![0, 256] (tabOf m d) slices_S100000x300_S100000x44_0_256) (sitofp .f32 (constantI S_ 32 0#32))
    pads_S100000x44_S100000x128_000_0840 h_S_
/-- The result. -/
def outOf (d : Dev nD) : S4096x200x300.Idx → Elt F .f32 :=
  shapeCast S4096x200x300 (res (tokOf m d) (tabOf m d) : S819200x300.Idx → Elt F .f32) shapeCasts_S819200x300_S4096x200x300

/-! ## The host operations -/

abbrev a0' : DevRef τ sig := Proc.devRef .tc (main_arg0 : Ref sig .tc)
abbrev a1' : DevRef τ sig := Proc.devRef .tc (main_arg1 : Ref sig .tc)
abbrev s' : DevRef τ sig := Proc.devRef .tc (main_v0 : Ref sig .tc)
abbrev c' : DevRef τ sig := Proc.devRef .tc (main_c : Ref sig .tc)
abbrev z' : DevRef τ sig := Proc.devRef .tc (main_call0_v0 : Ref sig .tc)
abbrev p' : DevRef τ sig := Proc.devRef .tc (main_v1 : Ref sig .tc)
abbrev t' : DevRef τ sig := Proc.devRef .tc (main_v2 : Ref sig .tc)
abbrev o' : DevRef τ sig := Proc.devRef .tc (main_v3 : Ref sig .tc)
abbrev r' : DevRef τ sig := Proc.devRef .tc (main_v4 : Ref sig .tc)

abbrev opSlice : HloOp τ sig (Elt F) := StableHlo.unary main_arg1 main_v0 ((extractStridedSlice S100000x44 ![0, 256] · slices_S100000x300_S100000x44_0_256) : (⟨S100000x300, .f32⟩ : BufTy).Contents (Elt F) → (⟨S100000x44, .f32⟩ : BufTy).Contents (Elt F))
abbrev opZero : HloOp τ sig (Elt F) := StableHlo.nullary main_c (constantI S_ 32 0#32)
abbrev opConv : HloOp τ sig (Elt F) := StableHlo.TRef.unary (.of main_c : StableHlo.TRef sig ⟨S_, .i32⟩) main_call0.v0 (sitofp .f32)
abbrev opPad : HloOp τ sig (Elt F) := StableHlo.TRef.binary (.of main_v0 : StableHlo.TRef sig ⟨S100000x44, .f32⟩) main_call0.v0 main_call0.v1 (fun x v => pad S100000x128 ![0, 0] ![0, 84] ![0, 0] x v pads_S100000x44_S100000x128_000_0840 h_S_)
abbrev opTok : HloOp τ sig (Elt F) := StableHlo.reshape main_arg0 main_v2 (rfl : (.i32 : EltTy) = .i32) shapeCasts_S4096x200_S819200
abbrev opOut : HloOp τ sig (Elt F) := StableHlo.reshape main_v3 main_v4 (rfl : (.f32 : EltTy) = .f32) shapeCasts_S819200x300_S4096x200x300

/-- @main's arrays. -/
abbrev S9 : Finset (DevRef τ sig) := {a0', a1', s', c', z', p', t', o', r'}
/-- Those of the last reshape. -/
abbrev S2 : Finset (DevRef τ sig) := {o', r'}

theorem held_S9 (d : Dev nD) (W : Valuation τ sig (Elt F)) :
    (held (SparseCore.T d) S9 W : sProp 𝕄)
      = iprop(((SparseCore.T d).loc main_arg0 ↦{fullShare} W a0') ∗ ((SparseCore.T d).loc main_arg1 ↦{fullShare} W a1') ∗ ((SparseCore.T d).loc main_v0 ↦{fullShare} W s')
          ∗ ((SparseCore.T d).loc main_c ↦{fullShare} W c') ∗ ((SparseCore.T d).loc main_call0_v0 ↦{fullShare} W z') ∗ ((SparseCore.T d).loc main_v1 ↦{fullShare} W p')
          ∗ ((SparseCore.T d).loc main_v2 ↦{fullShare} W t') ∗ ((SparseCore.T d).loc main_v3 ↦{fullShare} W o') ∗ (SparseCore.T d).loc main_v4 ↦{fullShare} W r') := by
  unfold held S9
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

theorem held_S2 (d : Dev nD) (W : Valuation τ sig (Elt F)) :
    (held (SparseCore.T d) S2 W : sProp 𝕄) = iprop(((SparseCore.T d).loc main_v3 ↦{fullShare} W o') ∗ (SparseCore.T d).loc main_v4 ↦{fullShare} W r') := by
  unfold held S2
  rw [SparseCore.bigSep_insert' (by decide), bigSep_singleton]

/-- The launch valuation, and the one before the call. -/
def V0 (d : Dev nD) : Valuation τ sig (Elt F) := fun b => m (d, b)
def V5 (d : Dev nD) : Valuation τ sig (Elt F) :=
  (opTok (F := F)).result ((opPad (F := F)).result ((opConv (F := F)).result ((opZero (F := F)).result ((opSlice (F := F)).result (V0 m d)))))
/-- After the call. -/
def V6 (d : Dev nD) : Valuation τ sig (Elt F) := Function.update (V5 m d) o' (res (tokOf m d) (tabOf m d) : S819200x300.Idx → Elt F .f32)

theorem unscoped_held (d : Dev nD) : (unscopedBufs d (fun b => m ((SparseCore.T d).loc b)) : sProp 𝕄) = held (SparseCore.T d) S9 (V0 m d) := by
  rw [held_S9]
  unfold unscopedBufs
  rw [show (Finset.univ.filter fun b : Ref sig .tc => ¬ b.isScoped) = {main_arg0, main_arg1, main_v0, main_c, main_call0_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]
  rfl

theorem V5_a0 (d : Dev nD) : V5 m d a0' = m ((SparseCore.T d).loc main_arg0) := by
  unfold V5
  rw [(opTok (F := F)).result_of_not_mem _ (show a0' ∉ ({t'} : Finset (DevRef τ sig)) by decide),
    (opPad (F := F)).result_of_not_mem _ (show a0' ∉ ({p'} : Finset (DevRef τ sig)) by decide),
    (opConv (F := F)).result_of_not_mem _ (show a0' ∉ ({z'} : Finset (DevRef τ sig)) by decide),
    (opZero (F := F)).result_of_not_mem _ (show a0' ∉ ({c'} : Finset (DevRef τ sig)) by decide),
    (opSlice (F := F)).result_of_not_mem _ (show a0' ∉ ({s'} : Finset (DevRef τ sig)) by decide)]
  rfl
theorem V5_a1 (d : Dev nD) : V5 m d a1' = tabOf m d := by
  unfold V5
  rw [(opTok (F := F)).result_of_not_mem _ (show a1' ∉ ({t'} : Finset (DevRef τ sig)) by decide),
    (opPad (F := F)).result_of_not_mem _ (show a1' ∉ ({p'} : Finset (DevRef τ sig)) by decide),
    (opConv (F := F)).result_of_not_mem _ (show a1' ∉ ({z'} : Finset (DevRef τ sig)) by decide),
    (opZero (F := F)).result_of_not_mem _ (show a1' ∉ ({c'} : Finset (DevRef τ sig)) by decide),
    (opSlice (F := F)).result_of_not_mem _ (show a1' ∉ ({s'} : Finset (DevRef τ sig)) by decide)]
  rfl
theorem V5_t (d : Dev nD) : V5 m d t' = tokOf m d := by
  unfold V5
  refine (StableHlo.reshape_result _ _ _ _ _ _ _).trans ?_
  rw [(opPad (F := F)).result_of_not_mem _ (show a0' ∉ ({p'} : Finset (DevRef τ sig)) by decide),
    (opConv (F := F)).result_of_not_mem _ (show a0' ∉ ({z'} : Finset (DevRef τ sig)) by decide),
    (opZero (F := F)).result_of_not_mem _ (show a0' ∉ ({c'} : Finset (DevRef τ sig)) by decide),
    (opSlice (F := F)).result_of_not_mem _ (show a0' ∉ ({s'} : Finset (DevRef τ sig)) by decide)]
  rfl
theorem V5_p (d : Dev nD) : V5 m d p' = tlOf m d := by
  unfold V5
  rw [(opTok (F := F)).result_of_not_mem _ (show p' ∉ ({t'} : Finset (DevRef τ sig)) by decide)]
  refine (StableHlo.binary_result _ _ _ _ _ _ _ _).trans ?_
  have e1 : (opConv (F := F)).result ((opZero (F := F)).result ((opSlice (F := F)).result (V0 m d))) z' = (sitofp .f32 (constantI S_ 32 0#32) : S_.Idx → Elt F .f32) := by
    refine (StableHlo.unary_result _ _ _ _ _ _).trans ?_
    rw [show (opZero (F := F)).result ((opSlice (F := F)).result (V0 m d)) c' = _ from StableHlo.nullary_result _ _ _ _]
    rfl
  have e2 : (opConv (F := F)).result ((opZero (F := F)).result ((opSlice (F := F)).result (V0 m d))) s'
      = (extractStridedSlice S100000x44 ![0, 256] (tabOf m d) slices_S100000x300_S100000x44_0_256 : S100000x44.Idx → Elt F .f32) := by
    rw [(opConv (F := F)).result_of_not_mem _ (show s' ∉ ({z'} : Finset (DevRef τ sig)) by decide),
      (opZero (F := F)).result_of_not_mem _ (show s' ∉ ({c'} : Finset (DevRef τ sig)) by decide)]
    exact StableHlo.unary_result _ _ _ _ _ _
  rw [show (opConv (F := F)).result ((opZero (F := F)).result ((opSlice (F := F)).result (V0 m d))) (Proc.devRef .tc (main_call0.v0.ref : Ref sig .tc)) = _ from e1,
    show (opConv (F := F)).result ((opZero (F := F)).result ((opSlice (F := F)).result (V0 m d))) (Proc.devRef .tc (main_v0 : Ref sig .tc)) = _ from e2]
  rfl
theorem V6_o (d : Dev nD) : V6 m d o' = (res (tokOf m d) (tabOf m d) : S819200x300.Idx → Elt F .f32) := Function.update_self _ _ _
theorem V6_r (d : Dev nD) : V6 m d r' = V5 m d r' := Function.update_of_ne (show r' ≠ o' by decide) _ _

theorem held_V5 (d : Dev nD) :
    (held (SparseCore.T d) S9 ((opTok (F := F)).result ((opPad (F := F)).result ((opConv (F := F)).result ((opZero (F := F)).result ((opSlice (F := F)).result (V0 m d)))))) : sProp 𝕄)
      = iprop(((SparseCore.T d).loc main_arg0 ↦{fullShare} m ((SparseCore.T d).loc main_arg0)) ∗ ((SparseCore.T d).loc main_arg1 ↦{fullShare} tabOf m d) ∗ ((SparseCore.T d).loc main_v0 ↦{fullShare} V5 m d s')
          ∗ ((SparseCore.T d).loc main_c ↦{fullShare} V5 m d c') ∗ ((SparseCore.T d).loc main_call0_v0 ↦{fullShare} V5 m d z') ∗ ((SparseCore.T d).loc main_v1 ↦{fullShare} tlOf m d)
          ∗ ((SparseCore.T d).loc main_v2 ↦{fullShare} tokOf m d) ∗ ((SparseCore.T d).loc main_v3 ↦{fullShare} V5 m d o') ∗ (SparseCore.T d).loc main_v4 ↦{fullShare} V5 m d r') := by
  show held (SparseCore.T d) S9 (V5 m d) = _
  rw [held_S9, V5_a0, V5_a1, V5_t, V5_p]

theorem held_end (d : Dev nD) :
    (held (SparseCore.T d) S2 ((opOut (F := F)).result (V6 m d)) : sProp 𝕄) = iprop(((SparseCore.T d).loc main_v3 ↦{fullShare} (opOut (F := F)).result (V6 m d) o') ∗ (SparseCore.T d).loc main_v4 ↦{fullShare} outOf m d) := by
  rw [held_S2, show (opOut (F := F)).result (V6 m d) r' = outOf m d from (StableHlo.reshape_result _ _ _ _ _ _ _).trans (by rw [V6_o]; rfl)]

theorem hSlice : (opSlice (F := F)).bufs ⊆ S9 := show ({a1', s'} : Finset (DevRef τ sig)) ⊆ S9 by decide
theorem hZero : (opZero (F := F)).bufs ⊆ S9 := show ({c'} : Finset (DevRef τ sig)) ⊆ S9 by decide
theorem hConv : (opConv (F := F)).bufs ⊆ S9 := show ({c', z'} : Finset (DevRef τ sig)) ⊆ S9 by decide
theorem hPad : (opPad (F := F)).bufs ⊆ S9 := show ({s', z', p'} : Finset (DevRef τ sig)) ⊆ S9 by decide
theorem hTok : (opTok (F := F)).bufs ⊆ S9 := show ({a0', t'} : Finset (DevRef τ sig)) ⊆ S9 by decide
theorem hOut : (opOut (F := F)).bufs ⊆ S2 := show ({o', r'} : Finset (DevRef τ sig)) ⊆ S2 by decide

end Cert.Proof.Host

end
-- ==== Proof.Run.lean ====
/- The program's run, over any float values: under tokens that name rows of the table, the result array ends holding
   the rows that the tokens name, the arguments as they were, every semaphore at zero. -/
module

public import proofs.«01_k».proof.Proof.Host

@[expose] public section

noncomputable section

namespace Cert.Proof.Run

open Cert.KernelIdeal Cert.KernelIdeal.Gen Cert.Proof.Slots Cert.Proof.State Cert.Proof.Launch Cert.Proof.Host
open Idealize.ShloMosaic
open Idealize.ShloMosaic.ValueIdx
open Idealize.ShloMosaic.StableHlo (held wp_hlo_within)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

/-- What the run asks of the launch memory: every token names a row of the table. -/
def PreOK : Prop := ∀ (d : Dev nD) (j : S4096x200.Idx), (m ((SparseCore.T d).loc main_arg0) j : BitVec 32).toNat < 100000

theorem tok_lt (h : PreOK m) (d : Dev nD) (n : ℕ) : (tokAt (tokOf m d) n).toNat < 100000 := h d _

/-- The padded slice's first 44 columns are the table's last. -/
theorem tl_eq (d : Dev nD) (x : S100000x128.Idx) (hx : (x 1).val < 44) : tlOf m d x = tabAt (tabOf m d) (x 0).val (256 + (x 1).val) := by
  have h0 : (x 0).val < 100000 := (x 0).isLt
  have hin : ∀ a : Fin S100000x44.rank, (![0, 0] : Fin 2 → ℕ) a ≤ (x (a.cast pads_S100000x44_S100000x128_000_0840.1)).val
      ∧ ((x (a.cast pads_S100000x44_S100000x128_000_0840.1)).val - (![0, 0] : Fin 2 → ℕ) a) % ((![0, 0] : Fin 2 → ℕ) a + 1) = 0
      ∧ ((x (a.cast pads_S100000x44_S100000x128_000_0840.1)).val - (![0, 0] : Fin 2 → ℕ) a) / ((![0, 0] : Fin 2 → ℕ) a + 1) < S100000x44.size a := by
    intro a
    match a with
    | 0 => exact ⟨Nat.zero_le _, Nat.mod_one _, by show ((x 0).val - 0) / (0 + 1) < 100000; omega⟩
    | 1 => exact ⟨Nat.zero_le _, Nat.mod_one _, by show ((x 1).val - 0) / (0 + 1) < 44; omega⟩
  unfold tlOf pad
  rw [dif_pos hin]
  unfold extractStridedSlice
  refine (tab_eq (tabOf m d) _).trans ?_
  congr 1
  · show 0 + ((x 0).val - 0) / (0 + 1) = (x 0).val
    omega
  · show 256 + ((x 1).val - 0) / (0 + 1) = 256 + (x 1).val
    omega

/-- The call's payloads. -/
abbrev PP : (K (F := F)).Pay (nD := nD) (Val := Elt F) (Name := ℕ) (U := UU) := P (tokOf m) (tabOf m) (tlOf m)

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PP m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), bigSep_emp']
  iempintro

/-! ## @main -/

/-- What @main leaves: the arguments as they were (of the table, the share the kernel was not given) and the result. -/
abbrev FIN (d : Dev nD) : sProp 𝕄 :=
  iprop(((SparseCore.T d).loc main_arg0 ↦{fullShare} m ((SparseCore.T d).loc main_arg0)) ∗ ((SparseCore.T d).loc main_arg1 ↦{fullShare.left} m ((SparseCore.T d).loc main_arg1))
    ∗ (SparseCore.T d).loc main_v4 ↦{fullShare} outOf m d)

theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, fn_pad.body, wp_bind, wp_pure]
  iintro ⟨#Hctx, Hst, ⟨Hb, Hheld, Hts, -⟩, -⟩
  -- the slice, the zero, its conversion, the padding, the tokens in a line
  iapply (wp_hlo_within 𝒱 (SparseCore.T d) none Set.univ (op := opSlice) (S := S9) hSlice (V := V0 m d)) $$ [Hb Hheld]
  · isplitl [Hb] <;> iassumption
  iintro ⟨Hb, Hheld⟩
  rw [wp_ret]; imodintro
  iapply (wp_hlo_within 𝒱 (SparseCore.T d) none Set.univ (op := opZero) (S := S9) hZero (V := (opSlice (F := F)).result (V0 m d))) $$ [Hb Hheld]
  · isplitl [Hb] <;> iassumption
  iintro ⟨Hb, Hheld⟩
  rw [wp_ret]; imodintro
  iapply (wp_hlo_within 𝒱 (SparseCore.T d) none Set.univ (op := opConv) (S := S9) hConv (V := (opZero (F := F)).result ((opSlice (F := F)).result (V0 m d)))) $$ [Hb Hheld]
  · isplitl [Hb] <;> iassumption
  iintro ⟨Hb, Hheld⟩
  rw [wp_ret]; imodintro
  iapply (wp_hlo_within 𝒱 (SparseCore.T d) none Set.univ (op := opPad) (S := S9) hPad
    (V := (opConv (F := F)).result ((opZero (F := F)).result ((opSlice (F := F)).result (V0 m d))))) $$ [Hb Hheld]
  · isplitl [Hb] <;> iassumption
  iintro ⟨Hb, Hheld⟩
  rw [wp_ret]; imodintro
  imodintro
  iapply (wp_hlo_within 𝒱 (SparseCore.T d) none Set.univ (op := opTok) (S := S9) hTok
    (V := (opPad (F := F)).result ((opConv (F := F)).result ((opZero (F := F)).result ((opSlice (F := F)).result (V0 m d)))))) $$ [Hb Hheld]
  · isplitl [Hb] <;> iassumption
  iintro ⟨Hb, Hheld⟩
  rw [wp_ret]; imodintro
  -- the call
  ihave Hh := (Entails.of_eq (held_V5 (F := F) m d)) $$ Hheld
  icases Hh with ⟨Ha0, Ha1, -, -, -, Hp, Ht, Ho, Hr⟩
  ihave Ha1 := (pointsTo_share (PosShare.mem_left_op_right fullShare)).1 $$ Ha1
  icases Ha1 with ⟨Ha1, Hk⟩
  iapply ((K (F := F)).wp_run (D (F := F)) 𝒱 (EH := EH) (P := PP m) κ d 0) $$ [Hst Hk Hp Ht Ho Hb Ha0 Ha1 Hr Hts]
  isplitr; · iexact Hctx
  isplitl [Hst]; · iexact Hst
  isplitl [Hk Hp Ht Ho]
  · iapply (give_all (tokOf m) (tabOf m) (tlOf m) d fullShare.right (V5 m d o'))
    isplitl [Ht]; · iexact Ht
    isplitl [Hk]; · iexact Hk
    isplitl [Hp]; · iexact Hp
    iexact Ho
  iintro ⟨Hst, Hdn⟩
  ihave Ho := (Entails.of_eq (back_all (tokOf m) (tabOf m) (tlOf m) d)) $$ Hdn
  -- the result in its shape
  iapply (wp_hlo_within 𝒱 (SparseCore.T d) none Set.univ (op := opOut) (S := S2) hOut (V := V6 m d)) $$ [Hb Ho Hr]
  · isplitl [Hb]; · iexact Hb
    rw [held_S2, V6_o, V6_r]
    isplitl [Ho]; · iexact Ho
    iexact Hr
  iintro ⟨Hb, Hheld⟩
  ihave Hh := (Entails.of_eq (held_end (F := F) m d)) $$ Hheld
  icases Hh with ⟨-, Hr⟩
  rw [wp_ret]; imodintro; imodintro
  isplitl [Hst]; · iexact Hst
  isplitr [Hb Hts]
  · isplitl [Ha0]; · iexact Ha0
    isplitl [Ha1]; · iexact Ha1
    iexact Hr
  isplitl [Hb] <;> iassumption

/-- What the claims read of a device's final state. -/
def fq (d : Dev nD) (s' : Phys nD τ sig (Elt F)) : Prop :=
  s'.mem.mem ((SparseCore.T d).loc main_v4) = outOf m d
    ∧ s'.mem.mem ((SparseCore.T d).loc main_arg0) = m ((SparseCore.T d).loc main_arg0) ∧ s'.mem.mem ((SparseCore.T d).loc main_arg1) = m ((SparseCore.T d).loc main_arg1)

set_option maxRecDepth 16384 in
theorem hfin (d : Dev nD) (s' : Phys nD τ sig (Elt F)) : iprop(FIN m d ∗ SI s') ⊢ (⌜fq m d s'⌝ : sProp 𝕄) := by
  iintro ⟨⟨H0, H1, Hr⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare.left) (f := m ((SparseCore.T d).loc main_arg1)))) $$ [HSI H1]
  · isplitl [HSI] <;> iassumption
  icases H with ⟨%h1, HSI, -⟩
  ihave H := (SI_pointsTo_agree (st := s') (ℓ := (SparseCore.T d).loc main_v4) (I := Finset.univ) (q := fullShare) (f := outOf m d)) $$ [HSI Hr]
  · isplitl [HSI] <;> iassumption
  icases H with %hr
  ipureintro
  exact ⟨funext fun i => hr i (Finset.mem_univ i), funext fun i => h0 i (Finset.mem_univ i), funext fun i => h1 i (Finset.mem_univ i)⟩

/-! ## The run -/

def QC : PUnit × MemSt nD τ sig (Elt F) → Prop := fun r =>
  (∀ c : Dev nD, r.2.mem ((c.tc : Thread nD τ).loc main_v4) = outOf m c
    ∧ r.2.mem ((c.tc : Thread nD τ).loc main_arg0) = m ((c.tc : Thread nD τ).loc main_arg0) ∧ r.2.mem ((c.tc : Thread nD τ).loc main_arg1) = m ((c.tc : Thread nD τ).loc main_arg1))
  ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (tokOf m) (tabOf m) (tlOf m) facts (tok_lt m hpre) (tl_eq m))
    (fun q _ => match q with | 0 => SparseCore.Cfg.VecSplit.of_plain (vecSplit (tokOf m) (tabOf m) (tlOf m)))
    m ρ main (fun _ => iprop(emp)) (FIN m) (u₀ (F := F)) (sep_elim_left.trans (hu₀ m)) (hmain m ρ) (fq m) (hfin m) (QC m) (fun _ h hz => ⟨h, hz⟩)

end Cert.Proof.Run

end
-- ==== Proof.Value.lean ====
/- The value: what the reference computes of tokens that name rows of the table, read at an index — row `tokens[b, s]`
   of the table at column `c` —, and that the kernel's result is the same array. The reference is
   `jnp.take(table, tokens, axis=0)`: it adds the table's height to a negative token, reads the row that the token
   names (the token clamped into the table), and puts a NaN where the token was out of range; under the precondition
   only the row is left. -/
module

public import proofs.«01_k».proof.Proof.Run
public import proofs.«01_k».proof.Proof.Gen.ReferenceIdeal
public import proofs.«01_k».proof.Proof.Gen.Pre_in_vocabulary
public import Idealize.ShloMosaic.Lib.ReduceAll
public import Idealize.ShloMosaic.Lib.Pipeline.Value
public import Idealize.ShloMosaic.Lib.Claim

@[expose] public section

noncomputable section

namespace Cert.Proof.Value

open Cert.ReferenceIdeal Cert.ReferenceIdeal.Facts₀
open Idealize.ShloMosaic hiding ix1 ix2 ix3
open Idealize.SL.Sem
open Idealize.ShloMosaic.ValueIdx

variable {F : FTy → Type} [FloatOps F]

/-! ## Words -/

/-- A token below the table's height is no negative number. -/
theorem toInt_of_lt {b : BitVec 32} (h : b.toNat < 100000) : b.toInt = (b.toNat : ℤ) := by
  rw [BitVec.toInt_eq_toNat_cond, if_pos (by omega)]

theorem ofBool_eq_one {b : Bool} : BitVec.ofBool b = 1#1 ↔ b = true := by cases b <;> decide

theorem and_eq_one {a b : BitVec 1} : IntOp.andi a b = 1#1 ↔ a = 1#1 ∧ b = 1#1 := by
  revert a b; decide

theorem slt_zero {b : BitVec 32} (h : b.toNat < 100000) : IntOp.cmpi .slt b 0#32 = 0#1 := by
  have hb : b.slt 0#32 = false := by
    rw [BitVec.slt_eq_decide, toInt_of_lt h]; simp
  show BitVec.ofBool (b.slt 0#32) = 0#1
  rw [hb]; rfl

theorem sge_zero {b : BitVec 32} (h : b.toNat < 100000) : IntOp.cmpi .sge b 0#32 = 1#1 := by
  refine ofBool_eq_one.2 ?_
  show (0#32).sle b = true
  rw [BitVec.sle_eq_decide, toInt_of_lt h]; simp

theorem sle_last {b : BitVec 32} (h : b.toNat < 100000) : IntOp.cmpi .sle b 99999#32 = 1#1 := by
  refine ofBool_eq_one.2 ?_
  show b.sle 99999#32 = true
  rw [BitVec.sle_eq_decide, toInt_of_lt h, toInt_of_lt (by decide)]
  simp only [decide_eq_true_eq, BitVec.toNat_ofNat, Nat.reducePow, Nat.reduceMod]
  omega

/-- The two comparisons of the precondition, of one token. -/
theorem lt_of_cmp {b : BitVec 32} (h0 : IntOp.cmpi .sge b 0#32 = 1#1) (h1 : IntOp.cmpi .slt b 100000#32 = 1#1) : b.toNat < 100000 := by
  have e0 : (0#32).sle b = true := ofBool_eq_one.1 h0
  have e1 : b.slt 100000#32 = true := ofBool_eq_one.1 h1
  rw [BitVec.sle_eq_decide, decide_eq_true_eq] at e0
  rw [BitVec.slt_eq_decide, decide_eq_true_eq] at e1
  simp only [BitVec.toInt_eq_toNat_cond, BitVec.toNat_ofNat, Nat.reducePow, Nat.reduceMod] at e0 e1
  have := b.isLt
  split at e1 <;> omega

/-! ## The precondition -/

/-- The precondition says of every token that it names a row of the table. -/
theorem lt_of_pre (tok : IVec S4096x200 32) (tab : FVec F S100000x300 .f32)
    (e : Cert.Pre_in_vocabulary.fn (F := F) tok tab = fun _ => 1#1) (j : S4096x200.Idx) : (tok j).toNat < 100000 := by
  haveI : Subsingleton Cert.Pre_in_vocabulary.S_.Idx := ⟨fun a b => funext fun x => x.elim0⟩
  have z : Cert.Pre_in_vocabulary.S_.Idx := fun x => x.elim0
  unfold Cert.Pre_in_vocabulary.fn at e
  have h : IntOp.andi (IntOp.cmpi .sge (tok j) 0#32) (IntOp.cmpi .slt (tok j) 100000#32) = 1#1 :=
    Host.reduce_andi_all
      (andi (cmpi .sge tok (broadcastInDim S4096x200 ![] Cert.Pre_in_vocabulary.Facts.bcast_S_S4096x200 (constantI S_ 32 0#32)))
        (cmpi .slt tok (broadcastInDim S4096x200 ![] Cert.Pre_in_vocabulary.Facts.bcast_S_S4096x200 (constantI S_ 32 100000#32))))
      (constantI Cert.Pre_in_vocabulary.S_ 1 1#1) Cert.Pre_in_vocabulary.Facts.reducesTo_S4096x200_S_d0_1 Cert.Pre_in_vocabulary.Facts.h_S_
      z (congrFun e z) j
  obtain ⟨h0, h1⟩ := and_eq_one.1 h
  exact lt_of_cmp h0 h1

/-! ## The reference's array -/

/-- The rows the reference asks for: the tokens, one behind another on a last axis of size one. -/
def rowsOf (tok : IVec S4096x200 32) : IVec S4096x200x1 32 :=
  broadcastInDim S4096x200x1 ![0, 1] bcast_S4096x200_S4096x200x1_0_1
    (select (cmpi .slt tok (broadcastInDim S4096x200 ![] bcast_S_S4096x200 (constantI S_ 32 0#32)))
      (addi tok (broadcastInDim S4096x200 ![] bcast_S_S4096x200 (constantI S_ 32 100000#32))) tok)

/-- Where those rows are rows of the table. -/
def inTable (tok : IVec S4096x200 32) : IVec S4096x200 1 :=
  Host.reduce IntOp.andi
    (andi (cmpi .sge (rowsOf tok) (broadcastInDim S4096x200x1 ![] bcast_S_S4096x200x1 (constantI S_ 32 0#32)))
      (cmpi .sle (rowsOf tok) (broadcastInDim S4096x200x1 ![0, 1, 2] bcast_S1x1x1_S4096x200x1_0_1_2
        (broadcastInDim S1x1x1 ![2] bcast_S1_S1x1x1_2 (constantI S1 32 99999#32)))))
    (constantI S_ 1 1#1) reducesTo_S4096x200x1_S4096x200_d2 h_S_

/-- The reference's result. -/
def taken (tok : IVec S4096x200 32) (tab : FVec F S100000x300 .f32) : FVec F S4096x200x300 .f32 :=
  select (broadcastInDim S4096x200x300 ![0, 1] bcast_S4096x200_S4096x200x300_0_1 (inTable tok))
    (Host.gather gather_S100000x300_S4096x200x1_S4096x200x300_2_0_n_n_0_2_1300 tab (rowsOf tok))
    (broadcastInDim S4096x200x300 ![] bcast_S_S4096x200x300 (constant S_ .f32 0x7FC00000#32))

variable (tok : IVec S4096x200 32) (tab : FVec F S100000x300 .f32)

theorem rowsOf_apply (h : ∀ j, (tok j).toNat < 100000) (i : S4096x200x1.Idx) :
    rowsOf tok i = tok (ix2 ⟨(i 0).val, (i 0).isLt⟩ ⟨(i 1).val, (i 1).isLt⟩) := by
  have key : ∀ k : S4096x200.Idx, Scalar.select (IntOp.cmpi .slt (tok k) 0#32) (IntOp.addi (tok k) 100000#32) (tok k) = tok k := fun k => by
    rw [slt_zero (h k)]; rfl
  refine (key _).trans (congrArg tok (funext fun a => ?_))
  match a with
  | ⟨0, _⟩ => rfl
  | ⟨1, _⟩ => rfl

theorem inTable_apply (h : ∀ j, (tok j).toNat < 100000) (j : S4096x200.Idx) : inTable tok j = 1#1 := by
  refine Host.reduce_andi_one _ _ _ _ j rfl fun i => ?_
  refine and_eq_one.2 ⟨?_, ?_⟩
  · show IntOp.cmpi .sge (rowsOf tok i) 0#32 = 1#1
    rw [rowsOf_apply tok h]; exact sge_zero (h _)
  · show IntOp.cmpi .sle (rowsOf tok i) 99999#32 = 1#1
    rw [rowsOf_apply tok h]; exact sle_last (h _)

/-- A gather of whole rows, read at an index: the row asked for, clamped into the table, at the index's column. -/
theorem gather_apply (idx : IVec S4096x200x1 32) (x : S4096x200x300.Idx) :
    Host.gather gather_S100000x300_S4096x200x1_S4096x200x300_2_0_n_n_0_2_1300 tab idx x
      = tab (ix2 ⟨min (idx (ValueIdx.ix3 ⟨(x 0).val, (x 0).isLt⟩ ⟨(x 1).val, (x 1).isLt⟩ ⟨0, by omega⟩)).toInt.toNat 99999, by omega⟩
          ⟨(x 2).val, (x 2).isLt⟩) := by
  refine congrArg tab (funext fun a => Fin.ext ?_)
  match a with
  | ⟨0, _⟩ =>
    refine congrArg (fun n => min n 99999) (congrArg (fun i => (idx i).toInt.toNat) (funext fun b => Fin.ext ?_))
    match b with
    | ⟨0, _⟩ => rfl
    | ⟨1, _⟩ => rfl
    | ⟨2, _⟩ => rfl
  | ⟨1, _⟩ => exact Nat.zero_add _

theorem select_of_one {s : Shape} {α : Type} (c : IVec s 1) (a b : s.Idx → α) (i : s.Idx) (h : c i = 1#1) : select c a b i = a i := by
  show Scalar.select (c i) (a i) (b i) = a i
  rw [h]; rfl

theorem broadcastInDim_const_apply {s t : Shape} {α : Type} {v : α} {y : s.Idx → α} (dims : Fin s.rank → Fin t.rank) (hb : s.BroadcastsInDim t dims)
    (h : ∀ i, y i = v) (j : t.Idx) : broadcastInDim t dims hb y j = v := h _

/-- The reference's result at an index: the token's row of the table at the index's column. -/
theorem taken_apply (h : ∀ j, (tok j).toNat < 100000) (x : S4096x200x300.Idx) :
    taken tok tab x = tab (ix2 ⟨(tok (ix2 ⟨(x 0).val, (x 0).isLt⟩ ⟨(x 1).val, (x 1).isLt⟩)).toNat, h _⟩ ⟨(x 2).val, (x 2).isLt⟩) := by
  refine (select_of_one _ _ _ x (broadcastInDim_const_apply _ _ (inTable_apply tok h) x)).trans ?_
  refine (gather_apply tab (rowsOf tok) x).trans (congrArg tab ?_)
  congr 1
  refine Fin.ext ?_
  have hk := h (ix2 ⟨(x 0).val, (x 0).isLt⟩ ⟨(x 1).val, (x 1).isLt⟩)
  have hr := rowsOf_apply tok h (ValueIdx.ix3 ⟨(x 0).val, (x 0).isLt⟩ ⟨(x 1).val, (x 1).isLt⟩ ⟨0, by omega⟩)
  simp only [hr]
  generalize tok _ = b at hk ⊢
  rw [toInt_of_lt hk, Int.toNat_natCast]
  have hm : b.toNat ≤ 99999 := by omega
  rw [min_eq_left hm]

/-! ## The two arrays are one -/

/-- The tokens, one behind another: token `n` is that of row `n / 200` and place `n % 200`. -/
theorem flat_tok (x : S4096x200x300.Idx) (hn : (x 0).val * 200 + (x 1).val < 819200) :
    shapeCast Cert.KernelIdeal.S819200 tok Cert.KernelIdeal.Facts₀.shapeCasts_S4096x200_S819200 (ix1 ⟨(x 0).val * 200 + (x 1).val, hn⟩)
      = tok (ix2 ⟨(x 0).val, (x 0).isLt⟩ ⟨(x 1).val, (x 1).isLt⟩) := by
  refine shapeCast_apply tok _ _ _ ?_
  rw [Shape.rowMajor_val_one, Shape.rowMajor_val_two]
  rfl

/-- The rows that the kernel writes, back in the shape of the tokens, are the reference's result. -/
theorem taken_eq (h : ∀ j, (tok j).toNat < 100000) :
    shapeCast Cert.KernelIdeal.S4096x200x300
        (State.res (shapeCast Cert.KernelIdeal.S819200 tok Cert.KernelIdeal.Facts₀.shapeCasts_S4096x200_S819200) tab)
        Cert.KernelIdeal.Facts₀.shapeCasts_S819200x300_S4096x200x300
      = taken tok tab := by
  funext x
  rw [taken_apply tok tab h]
  have h0 : (x 0).val < 4096 := (x 0).isLt
  have h1 : (x 1).val < 200 := (x 1).isLt
  have h2 : (x 2).val < 300 := (x 2).isLt
  have hn : (x 0).val * 200 + (x 1).val < 819200 := by omega
  have e := (State.tok_eq (F := F) (shapeCast Cert.KernelIdeal.S819200 tok Cert.KernelIdeal.Facts₀.shapeCasts_S4096x200_S819200) _).symm.trans (flat_tok tok x hn)
  refine (shapeCast_apply (State.res (shapeCast Cert.KernelIdeal.S819200 tok Cert.KernelIdeal.Facts₀.shapeCasts_S4096x200_S819200) tab) _ x (ix2 ⟨(x 0).val * 200 + (x 1).val, hn⟩ ⟨(x 2).val, h2⟩) ?_).trans ?_
  · rw [Shape.rowMajor_val_two, Shape.rowMajor_val_three]; rfl
  · refine Eq.trans ?_ (State.tab_eq tab _).symm
    exact congrArg (fun b : BitVec 32 => State.tabAt tab b.toNat (x 2).val) e

/-! ## The reference's run -/

/-- The reference ends with its result, its arguments as they were, and every semaphore at zero (it declares none). -/
theorem run_ref (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
        r.2.mem ((c.tc : Thread nD τ).loc main_v0) = taken (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) := by
  hlo_run
  · intro c
    refine ⟨?_, trivial, trivial⟩
    simp only [StableHlo.TRef.ofBuf_toBuf]
    refine (cast_eq _ _).trans ?_
    unfold taken inTable rowsOf
    rfl
  · exact sem_eq_zero_of_no_sems (by decide) r.2

end Cert.Proof.Value

end
-- ==== Proof.lean ====
/- The claim's proof. The program is run once, over any float values (`Run.run_main`): under tokens that name rows of
   the table it ends with the result `Host.outOf` of its arguments, the arguments as they were, every semaphore at zero.
   The two frames and the two value claims read that run at one float instance or the other; the reference's run is
   `Value.run_ref`, and the two arrays are one by `Value.taken_eq`. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.Pre_in_vocabulary
public import proofs.«01_k».proof.Proof.Value

@[expose] public section

noncomputable section

namespace Cert.Proof

open Idealize.ShloMosaic Idealize.SL.Sem

/-! ## The program -/

section
variable {F : FTy → Type} [FloatOps F]

/-- The precondition, as the run asks for it. -/
theorem preOK (m : (ℓ : Loc KernelIdeal.nD KernelIdeal.τ KernelIdeal.sig) → Buf (Elt F) ℓ)
    (h : ∀ c : Dev KernelIdeal.nD, Pre_in_vocabulary.fn (F := F) (m ((c.tc : Thread KernelIdeal.nD KernelIdeal.τ).loc KernelIdeal.main_arg0))
      (m ((c.tc : Thread KernelIdeal.nD KernelIdeal.τ).loc KernelIdeal.main_arg1)) = fun _ => 1#1) : Run.PreOK m :=
  fun d j => Value.lt_of_pre _ _ (h d) j

end

theorem frame_KernelIdeal : Cert.quiescent_KernelIdeal := fun m ρ hpre =>
  (θ_run Cert.KernelIdeal.defs _ _).mono (fun _ h => ⟨fun c => (h.1 c).2, h.2⟩) (Run.run_main (F := Ideal) m ρ (preOK m hpre))

theorem frame_Kernel : Cert.quiescent_Kernel := fun m ρ hpre =>
  (θ_run Cert.KernelIdeal.defs _ _).mono (fun _ h => ⟨fun c => (h.1 c).2, h.2⟩) (Run.run_main (F := Bits) m ρ (preOK m hpre))

/-! ## The reference -/

theorem frame_ReferenceIdeal : Cert.quiescent_ReferenceIdeal := fun m ρ _ =>
  (θ_run Cert.ReferenceIdeal.defs _ _).mono (fun _ h => ⟨fun c => (h.1 c).2, h.2⟩) (Value.run_ref (F := Ideal) m ρ)

theorem frame_Reference : Cert.quiescent_Reference := fun m ρ _ =>
  (θ_run Cert.ReferenceIdeal.defs _ _).mono (fun _ h => ⟨fun c => (h.1 c).2, h.2⟩) (Value.run_ref (F := Bits) m ρ)

/-! ## The values -/

theorem algebraic : Cert.algebraic_KernelIdeal_ReferenceIdeal := fun m ρ m' ρ' hpre hagree =>
  ⟨Host.outOf m, (θ_run Cert.KernelIdeal.defs _ _).mono (fun _ h => h.1) (Run.run_main (F := Ideal) m ρ (preOK m hpre)),
    (θ_run Cert.ReferenceIdeal.defs _ _).mono (fun _ h c => ⟨by
      rw [(h.1 c).1, (hagree c).1, (hagree c).2]
      exact (Value.taken_eq _ _ (preOK m hpre c)).symm, (h.1 c).2⟩) (Value.run_ref (F := Ideal) m' ρ')⟩

theorem bitexact : Cert.bitexact_Kernel_Reference := fun m ρ m' ρ' hpre hagree =>
  ⟨Host.outOf m, (θ_run Cert.KernelIdeal.defs _ _).mono (fun _ h => h.1) (Run.run_main (F := Bits) m ρ (preOK m hpre)),
    (θ_run Cert.ReferenceIdeal.defs _ _).mono (fun _ h c => ⟨by
      refine (h.1 c).1.trans ?_
      refine (congrArg₂ Value.taken (hagree c).1 (hagree c).2).trans ?_
      exact (Value.taken_eq _ _ (preOK m hpre c)).symm, (h.1 c).2⟩) (Value.run_ref (F := Bits) m' ρ')⟩

/-- Everything claimed. -/
theorem claim : Cert.Claim :=
  ⟨Cert.Kernel.Gen.facts, Cert.KernelIdeal.Gen.facts, Cert.ReferenceIdeal.Gen.facts, Cert.Reference.Gen.facts, Cert.Pre_in_vocabulary.Gen.facts,
    frame_Kernel, frame_KernelIdeal, frame_ReferenceIdeal, frame_Reference, trivial, algebraic, bitexact⟩

end Cert.Proof

end
